-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v6_1)) (v3 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v6_1) = v2 c
          ∧ r.2.mem ((c.tc : Thread Cert.KernelIdeal.nD Cert.KernelIdeal.τ).loc Cert.KernelIdeal.main_v8_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x4096 : Shape := ⟨2, ![32, 4096]⟩
abbrev S4096x4096 : Shape := ⟨2, ![4096, 4096]⟩
abbrev S4096 : Shape := ⟨1, ![4096]⟩
abbrev S1x3 : Shape := ⟨2, ![1, 3]⟩
abbrev S1 : Shape := ⟨1, ![1]⟩
abbrev S3 : Shape := ⟨1, ![3]⟩
abbrev S4 : Shape := ⟨1, ![4]⟩
abbrev S2x8x512 : Shape := ⟨3, ![2, 8, 512]⟩
abbrev S2 : Shape := ⟨1, ![2]⟩
abbrev S1x8x512 : Shape := ⟨3, ![1, 8, 512]⟩
abbrev S8x512 : Shape := ⟨2, ![8, 512]⟩
abbrev S_ : Shape := ⟨0, ![]⟩
abbrev S1x4096 : Shape := ⟨2, ![1, 4096]⟩
abbrev S512x4096 : Shape := ⟨2, ![512, 4096]⟩
abbrev S1x512 : Shape := ⟨2, ![1, 512]⟩
abbrev S32x512 : Shape := ⟨2, ![32, 512]⟩
abbrev S512 : Shape := ⟨1, ![512]⟩
abbrev S32 : Shape := ⟨1, ![32]⟩
abbrev S1x32 : Shape := ⟨2, ![1, 32]⟩
abbrev S32x32 : Shape := ⟨2, ![32, 32]⟩
abbrev S32x1 : Shape := ⟨2, ![32, 1]⟩

abbrev nBuf : Table → Nat
  | .hbm => 24
  | .local .tc .vmem => 26
  | .local .tc .smem => 3
  | .local .scVector .vmem => 2
  | _ => 0

abbrev bufTy : (tb : Table) → Fin (nBuf tb) → BufTy
  | .hbm, ⟨0, _⟩ => ⟨S32x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S1x3, .f32⟩
  | .hbm, ⟨8, _⟩ => ⟨S1, .f32⟩
  | .hbm, ⟨9, _⟩ => ⟨S3, .f32⟩
  | .hbm, ⟨10, _⟩ => ⟨S4, .f32⟩
  | .hbm, ⟨11, _⟩ => ⟨S4096x4096, .f32⟩
  | .hbm, ⟨12, _⟩ => ⟨S1x4096, .f32⟩
  | .hbm, ⟨13, _⟩ => ⟨S32x4096, .f32⟩
  | .hbm, ⟨14, _⟩ => ⟨S32x4096, .f32⟩
  | .hbm, ⟨15, _⟩ => ⟨S1x4096, .f32⟩
  | .hbm, ⟨16, _⟩ => ⟨S32x4096, .f32⟩
  | .hbm, ⟨17, _⟩ => ⟨S4096x4096, .f32⟩
  | .hbm, ⟨18, _⟩ => ⟨S1x4096, .f32⟩
  | .hbm, ⟨19, _⟩ => ⟨S32x4096, .f32⟩
  | .hbm, ⟨20, _⟩ => ⟨S4096x4096, .f32⟩
  | .hbm, ⟨21, _⟩ => ⟨S_, .i32⟩
  | .hbm, ⟨22, _⟩ => ⟨S_, .i32⟩
  | .hbm, ⟨23, _⟩ => ⟨S4096x4096, .f32⟩
  | .local .tc .vmem, ⟨0, _⟩ => ⟨S32x4096, .f32⟩
  | .local .tc .vmem, ⟨1, _⟩ => ⟨S512x4096, .f32⟩
  | .local .tc .vmem, ⟨2, _⟩ => ⟨S512x4096, .f32⟩
  | .local .tc .vmem, ⟨3, _⟩ => ⟨S1x512, .f32⟩
  | .local .tc .vmem, ⟨4, _⟩ => ⟨S1x512, .f32⟩
  | .local .tc .vmem, ⟨5, _⟩ => ⟨S32x512, .f32⟩
  | .local .tc .vmem, ⟨6, _⟩ => ⟨S32x512, .f32⟩
  | .local .tc .vmem, ⟨7, _⟩ => ⟨S32x4096, .f32⟩
  | .local .tc .vmem, ⟨8, _⟩ => ⟨S32x4096, .f32⟩
  | .local .tc .vmem, ⟨9, _⟩ => ⟨S512x4096, .f32⟩
  | .local .tc .vmem, ⟨10, _⟩ => ⟨S512x4096, .f32⟩
  | .local .tc .vmem, ⟨11, _⟩ => ⟨S1x512, .f32⟩
  | .local .tc .vmem, ⟨12, _⟩ => ⟨S1x512, .f32⟩
  | .local .tc .vmem, ⟨13, _⟩ => ⟨S32x512, .f32⟩
  | .local .tc .vmem, ⟨14, _⟩ => ⟨S32x512, .f32⟩
  | .local .tc .vmem, ⟨15, _⟩ => ⟨S512x4096, .f32⟩
  | .local .tc .vmem, ⟨16, _⟩ => ⟨S512x4096, .f32⟩
  | .local .tc .vmem, ⟨17, _⟩ => ⟨S32x4096, .f32⟩
  | .local .tc .vmem, ⟨18, _⟩ => ⟨S512x4096, .f32⟩
  | .local .tc .vmem, ⟨19, _⟩ => ⟨S512x4096, .f32⟩
  | .local .tc .vmem, ⟨20, _⟩ => ⟨S1x512, .f32⟩
  | .local .tc .vmem, ⟨21, _⟩ => ⟨S1x512, .f32⟩
  | .local .tc .vmem, ⟨22, _⟩ => ⟨S32x512, .f32⟩
  | .local .tc .vmem, ⟨23, _⟩ => ⟨S32x512, .f32⟩
  | .local .tc .vmem, ⟨24, _⟩ => ⟨S512x4096, .f32⟩
  | .local .tc .vmem, ⟨25, _⟩ => ⟨S512x4096, .f32⟩
  | .local .tc .smem, ⟨0, _⟩ => ⟨S4, .f32⟩
  | .local .tc .smem, ⟨1, _⟩ => ⟨S4, .f32⟩
  | .local .tc .smem, ⟨2, _⟩ => ⟨S4, .f32⟩
  | .local .scVector .vmem, ⟨0, _⟩ => ⟨S2x8x512, .f32⟩
  | .local .scVector .vmem, ⟨1, _⟩ => ⟨S2x8x512, .f32⟩
  | _, _ => ⟨S32x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | .smem, ⟨1, _⟩ => true
  | .smem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 33 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTables nBuf rfl bufTy 4 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_c : Ref sig .tc := ⟨.hbm, 21, rfl⟩
abbrev main_c_0 : Ref sig .tc := ⟨.hbm, 22, rfl⟩
abbrev main_v9 : Ref sig .tc := ⟨.hbm, 23, rfl⟩
abbrev main_arg1_scv : Ref sig .scVector := ⟨.hbm, 1, rfl⟩
abbrev main_v2_scv : Ref sig .scVector := ⟨.hbm, 11, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg4_0 : Ref sig .tc := ⟨.vmem, 5, rfl⟩
abbrev cc1_stg4_1 : Ref sig .tc := ⟨.vmem, 6, rfl⟩
abbrev cc1_stg5_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg2_1 : Ref sig .tc := ⟨.vmem, 12, rfl⟩
abbrev cc2_stg4_0 : Ref sig .tc := ⟨.vmem, 13, rfl⟩
abbrev cc2_stg4_1 : Ref sig .tc := ⟨.vmem, 14, rfl⟩
abbrev cc2_stg5_0 : Ref sig .tc := ⟨.vmem, 15, rfl⟩
abbrev cc2_stg5_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg4_0 : Ref sig .tc := ⟨.vmem, 22, rfl⟩
abbrev cc3_stg4_1 : Ref sig .tc := ⟨.vmem, 23, rfl⟩
abbrev cc3_stg5_0 : Ref sig .tc := ⟨.vmem, 24, rfl⟩
abbrev cc3_stg5_1 : Ref sig .tc := ⟨.vmem, 25, rfl⟩
abbrev cc1_stg3_0 : Ref sig .tc := ⟨.smem, 0, rfl⟩
abbrev cc2_stg3_0 : Ref sig .tc := ⟨.smem, 1, rfl⟩
abbrev cc3_stg3_0 : Ref sig .tc := ⟨.smem, 2, rfl⟩
abbrev cc0_scoped0 : Ref sig .scVector := ⟨.vmem, 0, rfl⟩
abbrev cc0_scoped2 : Ref sig .scVector := ⟨.vmem, 1, rfl⟩
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem4_1 : DmaSem sig := 11
abbrev cc1_sem5_0 : DmaSem sig := 12
abbrev cc2_sem0_0 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20
abbrev cc2_sem5_0 : DmaSem sig := 21
abbrev cc2_sem5_1 : DmaSem sig := 22
abbrev cc3_sem0_0 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem4_1 : DmaSem sig := 30
abbrev cc3_sem5_0 : DmaSem sig := 31
abbrev cc3_sem5_1 : DmaSem sig := 32
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_26_r0 : BitVec 32 := 0#32
  let c2_i32_r0 : BitVec 32 := 2#32
  let v34_r0 : BitVec 32 := Scalar.remui c0_i32_26_r0 c2_i32_r0
  let c0_i32_28_r0 : BitVec 32 := 0#32
  let c0_i32_29_r0 : BitVec 32 := 0#32
  ![v34_r0.toNat, 0, 0]
def k0_off2 (i : grid0.Coords) : Fin 2 → Nat :=
  let c8_i32_27_r0 : BitVec 32 := 8#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let v35_r0 : BitVec 32 := Scalar.muli c8_i32_27_r0 v7_r0
  let c0_i32_30_r0 : BitVec 32 := 0#32
  ![v35_r0.toNat, 0]
def k0_off3 : Fin 1 → Nat :=
  let c0_i32_26_r0 : BitVec 32 := 0#32
  let c2_i32_r0 : BitVec 32 := 2#32
  let v34_r0 : BitVec 32 := Scalar.remui c0_i32_26_r0 c2_i32_r0
  ![v34_r0.toNat]
@[reducible] def k0_t1_loop : Scf.Loop 32 :=
  let c0_i32_41_r0 : BitVec 32 := 0#32
  let c128_i32_r0 : BitVec 32 := 128#32
  let v45_r0 : BitVec 32 := Scalar.addi c0_i32_41_r0 c128_i32_r0
  let c1_i32_42_r0 : BitVec 32 := 1#32
  ⟨c0_i32_41_r0, v45_r0, c1_i32_42_r0⟩
def k0_off4 (arg5_r0 : BitVec 32) : Fin 3 → Nat :=
  let c2_i32_144_r0 : BitVec 32 := 2#32
  let v223_r0 : BitVec 32 := Scalar.remui arg5_r0 c2_i32_144_r0
  let c0_i32_147_r0 : BitVec 32 := 0#32
  let c0_i32_148_r0 : BitVec 32 := 0#32
  ![v223_r0.toNat, 0, 0]
def k0_cond1 (i : grid0.Coords) (k0_t1 : Fin k0_t1_loop.trips) (arg9_r0 : BitVec 32) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v100_r0 : BitVec 32 := Scalar.addi arg9_r0 v4
  let true_93_r0 : BitVec 1 := 1#1
  let c1_i32_92_r0 : BitVec 32 := 1#32
  let v112_r0 : BitVec 32 := Scalar.addi arg10_r0 c1_i32_92_r0
  let v113_r0 : BitVec 32 := Scalar.select true_93_r0 v112_r0 arg10_r0
  let c8_i32_94_r0 : BitVec 32 := 8#32
  let v114_r0 : BitVec 1 := Scalar.cmpi .eq v113_r0 c8_i32_94_r0
  let c1_i32_96_r0 : BitVec 32 := 1#32
  let v116_r0 : BitVec 32 := Scalar.addi arg9_r0 c1_i32_96_r0
  let v117_r0 : BitVec 32 := Scalar.select v114_r0 v116_r0 arg9_r0
  let c16_i32_97_r0 : BitVec 32 := 16#32
  let v118_r0 : BitVec 1 := Scalar.cmpi .eq v117_r0 c16_i32_97_r0
  let c0_i32_98_r0 : BitVec 32 := 0#32
  let v119_r0 : BitVec 32 := Scalar.select v118_r0 c0_i32_98_r0 v117_r0
  let v120_r0 : BitVec 32 := Scalar.addi v119_r0 v4
  let v132_r0 : BitVec 1 := Scalar.cmpi .ne v100_r0 v120_r0
  let c0_i32_83_r0 : BitVec 32 := 0#32
  let v101_r0 : BitVec 32 := Scalar.addi arg10_r0 c0_i32_83_r0
  let c0_i32_95_r0 : BitVec 32 := 0#32
  let v115_r0 : BitVec 32 := Scalar.select v114_r0 c0_i32_95_r0 v113_r0
  let c0_i32_99_r0 : BitVec 32 := 0#32
  let v121_r0 : BitVec 32 := Scalar.addi v115_r0 c0_i32_99_r0
  let v133_r0 : BitVec 1 := Scalar.cmpi .ne v101_r0 v121_r0
  let v134_r0 : BitVec 1 := Scalar.ori v132_r0 v133_r0
  let c0_i32_41_r0 : BitVec 32 := 0#32
  let c1_i32_42_r0 : BitVec 32 := 1#32
  let arg4_r0 : BitVec 32 := Scf.iv c0_i32_41_r0 c1_i32_42_r0 k0_t1
  let c127_i32_108_r0 : BitVec 32 := 127#32
  let v135_r0 : BitVec 1 := Scalar.cmpi .sge arg4_r0 c127_i32_108_r0
  let true_109_r0 : BitVec 1 := 1#1
  let v136_r0 : BitVec 1 := Scalar.xori v135_r0 true_109_r0
  let v137_r0 : BitVec 1 := Scalar.andi v134_r0 v136_r0
  let true_110_r0 : BitVec 1 := 1#1
  let v138_r0 : BitVec 1 := Scalar.andi v137_r0 true_110_r0
  let v139_r0 : BitVec 32 := Scalar.extui v138_r0
  let c0_i32_111_r0 : BitVec 32 := 0#32
  let v140_r0 : BitVec 1 := Scalar.cmpi .ne v139_r0 c0_i32_111_r0
  v140_r0

def k0_off5 (i : grid0.Coords) (arg9_r0 : BitVec 32) (arg10_r0 : BitVec 32) : Fin 2 → Nat :=
  let c8_i32_145_r0 : BitVec 32 := 8#32
  let true_93_r0 : BitVec 1 := 1#1
  let c1_i32_92_r0 : BitVec 32 := 1#32
  let v112_r0 : BitVec 32 := Scalar.addi arg10_r0 c1_i32_92_r0
  let v113_r0 : BitVec 32 := Scalar.select true_93_r0 v112_r0 arg10_r0
  let c8_i32_94_r0 : BitVec 32 := 8#32
  let v114_r0 : BitVec 1 := Scalar.cmpi .eq v113_r0 c8_i32_94_r0
  let c1_i32_96_r0 : BitVec 32 := 1#32
  let v116_r0 : BitVec 32 := Scalar.addi arg9_r0 c1_i32_96_r0
  let v117_r0 : BitVec 32 := Scalar.select v114_r0 v116_r0 arg9_r0
  let c16_i32_97_r0 : BitVec 32 := 16#32
  let v118_r0 : BitVec 1 := Scalar.cmpi .eq v117_r0 c16_i32_97_r0
  let c0_i32_98_r0 : BitVec 32 := 0#32
  let v119_r0 : BitVec 32 := Scalar.select v118_r0 c0_i32_98_r0 v117_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v120_r0 : BitVec 32 := Scalar.addi v119_r0 v4
  let v224_r0 : BitVec 32 := Scalar.muli c8_i32_145_r0 v120_r0
  let c512_i32_146_r0 : BitVec 32 := 512#32
  let c0_i32_95_r0 : BitVec 32 := 0#32
  let v115_r0 : BitVec 32 := Scalar.select v114_r0 c0_i32_95_r0 v113_r0
  let c0_i32_99_r0 : BitVec 32 := 0#32
  let v121_r0 : BitVec 32 := Scalar.addi v115_r0 c0_i32_99_r0
  let v225_r0 : BitVec 32 := Scalar.muli c512_i32_146_r0 v121_r0
  ![v224_r0.toNat, v225_r0.toNat]
def k0_off6 (arg5_r0 : BitVec 32) : Fin 1 → Nat :=
  let c2_i32_144_r0 : BitVec 32 := 2#32
  let v223_r0 : BitVec 32 := Scalar.remui arg5_r0 c2_i32_144_r0
  ![v223_r0.toNat]
def k0_off7 (arg6_r0 : BitVec 32) : Fin 3 → Nat :=
  let c2_i32_146_r0 : BitVec 32 := 2#32
  let v225_r0 : BitVec 32 := Scalar.remui arg6_r0 c2_i32_146_r0
  let c0_i32_147_r0 : BitVec 32 := 0#32
  let c0_i32_148_r0 : BitVec 32 := 0#32
  ![v225_r0.toNat, 0, 0]
def k0_cond2 (i : grid0.Coords) (k0_t1 : Fin k0_t1_loop.trips) (arg9_r0 : BitVec 32) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v100_r0 : BitVec 32 := Scalar.addi arg9_r0 v4
  let true_85_r0 : BitVec 1 := 1#1
  let c1_i32_84_r0 : BitVec 32 := 1#32
  let v102_r0 : BitVec 32 := Scalar.subi arg10_r0 c1_i32_84_r0
  let v103_r0 : BitVec 32 := Scalar.select true_85_r0 v102_r0 arg10_r0
  let c_m1_i32_86_r0 : BitVec 32 := 4294967295#32
  let v104_r0 : BitVec 1 := Scalar.cmpi .eq v103_r0 c_m1_i32_86_r0
  let c1_i32_88_r0 : BitVec 32 := 1#32
  let v106_r0 : BitVec 32 := Scalar.subi arg9_r0 c1_i32_88_r0
  let v107_r0 : BitVec 32 := Scalar.select v104_r0 v106_r0 arg9_r0
  let c_m1_i32_89_r0 : BitVec 32 := 4294967295#32
  let v108_r0 : BitVec 1 := Scalar.cmpi .eq v107_r0 c_m1_i32_89_r0
  let c15_i32_90_r0 : BitVec 32 := 15#32
  let v109_r0 : BitVec 32 := Scalar.select v108_r0 c15_i32_90_r0 v107_r0
  let v110_r0 : BitVec 32 := Scalar.addi v109_r0 v4
  let v150_r0 : BitVec 1 := Scalar.cmpi .ne v100_r0 v110_r0
  let c0_i32_83_r0 : BitVec 32 := 0#32
  let v101_r0 : BitVec 32 := Scalar.addi arg10_r0 c0_i32_83_r0
  let c7_i32_87_r0 : BitVec 32 := 7#32
  let v105_r0 : BitVec 32 := Scalar.select v104_r0 c7_i32_87_r0 v103_r0
  let c0_i32_91_r0 : BitVec 32 := 0#32
  let v111_r0 : BitVec 32 := Scalar.addi v105_r0 c0_i32_91_r0
  let v151_r0 : BitVec 1 := Scalar.cmpi .ne v101_r0 v111_r0
  let v152_r0 : BitVec 1 := Scalar.ori v150_r0 v151_r0
  let c0_i32_41_r0 : BitVec 32 := 0#32
  let c1_i32_42_r0 : BitVec 32 := 1#32
  let arg4_r0 : BitVec 32 := Scf.iv c0_i32_41_r0 c1_i32_42_r0 k0_t1
  let c0_i32_82_r0 : BitVec 32 := 0#32
  let v98_r0 : BitVec 1 := Scalar.cmpi .eq arg4_r0 c0_i32_82_r0
  let v153_r0 : BitVec 1 := Scalar.ori v152_r0 v98_r0
  let c0_i32_116_r0 : BitVec 32 := 0#32
  let v154_r0 : BitVec 1 := Scalar.cmpi .sge arg4_r0 c0_i32_116_r0
  let v155_r0 : BitVec 1 := Scalar.andi v153_r0 v154_r0
  let v156_r0 : BitVec 32 := Scalar.extui v155_r0
  let c0_i32_117_r0 : BitVec 32 := 0#32
  let v157_r0 : BitVec 1 := Scalar.cmpi .ne v156_r0 c0_i32_117_r0
  v157_r0

def k0_off8 (i : grid0.Coords) (arg9_r0 : BitVec 32) (arg10_r0 : BitVec 32) : Fin 2 → Nat :=
  let c8_i32_144_r0 : BitVec 32 := 8#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v100_r0 : BitVec 32 := Scalar.addi arg9_r0 v4
  let v223_r0 : BitVec 32 := Scalar.muli c8_i32_144_r0 v100_r0
  let c512_i32_145_r0 : BitVec 32 := 512#32
  let c0_i32_83_r0 : BitVec 32 := 0#32
  let v101_r0 : BitVec 32 := Scalar.addi arg10_r0 c0_i32_83_r0
  let v224_r0 : BitVec 32 := Scalar.muli c512_i32_145_r0 v101_r0
  ![v223_r0.toNat, v224_r0.toNat]
def k0_off9 (arg6_r0 : BitVec 32) : Fin 1 → Nat :=
  let c2_i32_146_r0 : BitVec 32 := 2#32
  let v225_r0 : BitVec 32 := Scalar.remui arg6_r0 c2_i32_146_r0
  ![v225_r0.toNat]
def k0_off10 (arg6_r0 : BitVec 32) : Fin 3 → Nat :=
  let c2_i32_120_r0 : BitVec 32 := 2#32
  let v166_r0 : BitVec 32 := Scalar.remui arg6_r0 c2_i32_120_r0
  let v168_r0 : Index := Scalar.indexCast v166_r0
  let c0_r0 : Index := 0#32
  let c0_122_r0 : Index := 0#32
  ![v168_r0.toNat, 0, 0]

def k0_chk2 (arg6_r0 : BitVec 32) : Prop :=
  (∀ a, (k0_off10 arg6_r0) a + S1x8x512.size a ≤ S2x8x512.size a)
theorem k0_off10_inb : ∀ (arg6_r0 : BitVec 32) (k0_hw2 : k0_chk2 arg6_r0), ∀ a, (k0_off10 arg6_r0) a + S1x8x512.size a ≤ S2x8x512.size a := fun arg6_r0 k0_hw2 => k0_hw2

def k0_off11 (arg7_r0 : BitVec 32) : Fin 3 → Nat :=
  let c2_i32_121_r0 : BitVec 32 := 2#32
  let v167_r0 : BitVec 32 := Scalar.remui arg7_r0 c2_i32_121_r0
  let v171_r0 : Index := Scalar.indexCast v167_r0
  let c0_123_r0 : Index := 0#32
  let c0_124_r0 : Index := 0#32
  ![v171_r0.toNat, 0, 0]

def k0_chk3 (arg7_r0 : BitVec 32) : Prop :=
  (∀ a, (k0_off11 arg7_r0) a + S1x8x512.size a ≤ S2x8x512.size a)
theorem k0_off11_inb : ∀ (arg7_r0 : BitVec 32) (k0_hw3 : k0_chk3 arg7_r0), ∀ a, (k0_off11 arg7_r0) a + S1x8x512.size a ≤ S2x8x512.size a := fun arg7_r0 k0_hw3 => k0_hw3

def k0_off12 (arg7_r0 : BitVec 32) : Fin 3 → Nat :=
  let c2_i32_144_r0 : BitVec 32 := 2#32
  let v223_r0 : BitVec 32 := Scalar.remui arg7_r0 c2_i32_144_r0
  let c0_i32_147_r0 : BitVec 32 := 0#32
  let c0_i32_148_r0 : BitVec 32 := 0#32
  ![v223_r0.toNat, 0, 0]
def k0_cond5 (i : grid0.Coords) (k0_t1 : Fin k0_t1_loop.trips) (arg9_r0 : BitVec 32) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v100_r0 : BitVec 32 := Scalar.addi arg9_r0 v4
  let true_93_r0 : BitVec 1 := 1#1
  let c1_i32_92_r0 : BitVec 32 := 1#32
  let v112_r0 : BitVec 32 := Scalar.addi arg10_r0 c1_i32_92_r0
  let v113_r0 : BitVec 32 := Scalar.select true_93_r0 v112_r0 arg10_r0
  let c8_i32_94_r0 : BitVec 32 := 8#32
  let v114_r0 : BitVec 1 := Scalar.cmpi .eq v113_r0 c8_i32_94_r0
  let c1_i32_96_r0 : BitVec 32 := 1#32
  let v116_r0 : BitVec 32 := Scalar.addi arg9_r0 c1_i32_96_r0
  let v117_r0 : BitVec 32 := Scalar.select v114_r0 v116_r0 arg9_r0
  let c16_i32_97_r0 : BitVec 32 := 16#32
  let v118_r0 : BitVec 1 := Scalar.cmpi .eq v117_r0 c16_i32_97_r0
  let c0_i32_98_r0 : BitVec 32 := 0#32
  let v119_r0 : BitVec 32 := Scalar.select v118_r0 c0_i32_98_r0 v117_r0
  let v120_r0 : BitVec 32 := Scalar.addi v119_r0 v4
  let v182_r0 : BitVec 1 := Scalar.cmpi .ne v100_r0 v120_r0
  let c0_i32_83_r0 : BitVec 32 := 0#32
  let v101_r0 : BitVec 32 := Scalar.addi arg10_r0 c0_i32_83_r0
  let c0_i32_95_r0 : BitVec 32 := 0#32
  let v115_r0 : BitVec 32 := Scalar.select v114_r0 c0_i32_95_r0 v113_r0
  let c0_i32_99_r0 : BitVec 32 := 0#32
  let v121_r0 : BitVec 32 := Scalar.addi v115_r0 c0_i32_99_r0
  let v183_r0 : BitVec 1 := Scalar.cmpi .ne v101_r0 v121_r0
  let v184_r0 : BitVec 1 := Scalar.ori v182_r0 v183_r0
  let c0_i32_41_r0 : BitVec 32 := 0#32
  let c1_i32_42_r0 : BitVec 32 := 1#32
  let arg4_r0 : BitVec 32 := Scf.iv c0_i32_41_r0 c1_i32_42_r0 k0_t1
  let c127_i32_r0 : BitVec 32 := 127#32
  let v99_r0 : BitVec 1 := Scalar.cmpi .eq arg4_r0 c127_i32_r0
  let v185_r0 : BitVec 1 := Scalar.ori v184_r0 v99_r0
  let v186_r0 : BitVec 32 := Scalar.extui v185_r0
  let c0_i32_126_r0 : BitVec 32 := 0#32
  let v187_r0 : BitVec 1 := Scalar.cmpi .ne v186_r0 c0_i32_126_r0
  v187_r0

def k0_off13 (i : grid0.Coords) (arg9_r0 : BitVec 32) (arg10_r0 : BitVec 32) : Fin 2 → Nat :=
  let c8_i32_145_r0 : BitVec 32 := 8#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v100_r0 : BitVec 32 := Scalar.addi arg9_r0 v4
  let v224_r0 : BitVec 32 := Scalar.muli c8_i32_145_r0 v100_r0
  let c512_i32_146_r0 : BitVec 32 := 512#32
  let c0_i32_83_r0 : BitVec 32 := 0#32
  let v101_r0 : BitVec 32 := Scalar.addi arg10_r0 c0_i32_83_r0
  let v225_r0 : BitVec 32 := Scalar.muli c512_i32_146_r0 v101_r0
  ![v224_r0.toNat, v225_r0.toNat]
def k0_off14 (arg7_r0 : BitVec 32) : Fin 1 → Nat :=
  let c2_i32_144_r0 : BitVec 32 := 2#32
  let v223_r0 : BitVec 32 := Scalar.remui arg7_r0 c2_i32_144_r0
  ![v223_r0.toNat]
def k0_off15 (arg8_r0 : BitVec 32) : Fin 3 → Nat :=
  let c2_i32_144_r0 : BitVec 32 := 2#32
  let v223_r0 : BitVec 32 := Scalar.remui arg8_r0 c2_i32_144_r0
  let c0_i32_147_r0 : BitVec 32 := 0#32
  let c0_i32_148_r0 : BitVec 32 := 0#32
  ![v223_r0.toNat, 0, 0]
def k0_cond7 (i : grid0.Coords) (k0_t1 : Fin k0_t1_loop.trips) (arg9_r0 : BitVec 32) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v100_r0 : BitVec 32 := Scalar.addi arg9_r0 v4
  let true_85_r0 : BitVec 1 := 1#1
  let c1_i32_84_r0 : BitVec 32 := 1#32
  let v102_r0 : BitVec 32 := Scalar.subi arg10_r0 c1_i32_84_r0
  let v103_r0 : BitVec 32 := Scalar.select true_85_r0 v102_r0 arg10_r0
  let c_m1_i32_86_r0 : BitVec 32 := 4294967295#32
  let v104_r0 : BitVec 1 := Scalar.cmpi .eq v103_r0 c_m1_i32_86_r0
  let c1_i32_88_r0 : BitVec 32 := 1#32
  let v106_r0 : BitVec 32 := Scalar.subi arg9_r0 c1_i32_88_r0
  let v107_r0 : BitVec 32 := Scalar.select v104_r0 v106_r0 arg9_r0
  let c_m1_i32_89_r0 : BitVec 32 := 4294967295#32
  let v108_r0 : BitVec 1 := Scalar.cmpi .eq v107_r0 c_m1_i32_89_r0
  let c15_i32_90_r0 : BitVec 32 := 15#32
  let v109_r0 : BitVec 32 := Scalar.select v108_r0 c15_i32_90_r0 v107_r0
  let v110_r0 : BitVec 32 := Scalar.addi v109_r0 v4
  let v199_r0 : BitVec 1 := Scalar.cmpi .ne v100_r0 v110_r0
  let c0_i32_83_r0 : BitVec 32 := 0#32
  let v101_r0 : BitVec 32 := Scalar.addi arg10_r0 c0_i32_83_r0
  let c7_i32_87_r0 : BitVec 32 := 7#32
  let v105_r0 : BitVec 32 := Scalar.select v104_r0 c7_i32_87_r0 v103_r0
  let c0_i32_91_r0 : BitVec 32 := 0#32
  let v111_r0 : BitVec 32 := Scalar.addi v105_r0 c0_i32_91_r0
  let v200_r0 : BitVec 1 := Scalar.cmpi .ne v101_r0 v111_r0
  let v201_r0 : BitVec 1 := Scalar.ori v199_r0 v200_r0
  let c0_i32_41_r0 : BitVec 32 := 0#32
  let c1_i32_42_r0 : BitVec 32 := 1#32
  let arg4_r0 : BitVec 32 := Scf.iv c0_i32_41_r0 c1_i32_42_r0 k0_t1
  let c0_i32_82_r0 : BitVec 32 := 0#32
  let v98_r0 : BitVec 1 := Scalar.cmpi .eq arg4_r0 c0_i32_82_r0
  let true_132_r0 : BitVec 1 := 1#1
  let v202_r0 : BitVec 1 := Scalar.xori v98_r0 true_132_r0
  let v203_r0 : BitVec 1 := Scalar.andi v201_r0 v202_r0
  let v204_r0 : BitVec 32 := Scalar.extui v203_r0
  let c0_i32_133_r0 : BitVec 32 := 0#32
  let v205_r0 : BitVec 1 := Scalar.cmpi .ne v204_r0 c0_i32_133_r0
  v205_r0

def k0_off16 (i : grid0.Coords) (arg9_r0 : BitVec 32) (arg10_r0 : BitVec 32) : Fin 2 → Nat :=
  let c8_i32_145_r0 : BitVec 32 := 8#32
  let true_85_r0 : BitVec 1 := 1#1
  let c1_i32_84_r0 : BitVec 32 := 1#32
  let v102_r0 : BitVec 32 := Scalar.subi arg10_r0 c1_i32_84_r0
  let v103_r0 : BitVec 32 := Scalar.select true_85_r0 v102_r0 arg10_r0
  let c_m1_i32_86_r0 : BitVec 32 := 4294967295#32
  let v104_r0 : BitVec 1 := Scalar.cmpi .eq v103_r0 c_m1_i32_86_r0
  let c1_i32_88_r0 : BitVec 32 := 1#32
  let v106_r0 : BitVec 32 := Scalar.subi arg9_r0 c1_i32_88_r0
  let v107_r0 : BitVec 32 := Scalar.select v104_r0 v106_r0 arg9_r0
  let c_m1_i32_89_r0 : BitVec 32 := 4294967295#32
  let v108_r0 : BitVec 1 := Scalar.cmpi .eq v107_r0 c_m1_i32_89_r0
  let c15_i32_90_r0 : BitVec 32 := 15#32
  let v109_r0 : BitVec 32 := Scalar.select v108_r0 c15_i32_90_r0 v107_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v110_r0 : BitVec 32 := Scalar.addi v109_r0 v4
  let v224_r0 : BitVec 32 := Scalar.muli c8_i32_145_r0 v110_r0
  let c512_i32_146_r0 : BitVec 32 := 512#32
  let c7_i32_87_r0 : BitVec 32 := 7#32
  let v105_r0 : BitVec 32 := Scalar.select v104_r0 c7_i32_87_r0 v103_r0
  let c0_i32_91_r0 : BitVec 32 := 0#32
  let v111_r0 : BitVec 32 := Scalar.addi v105_r0 c0_i32_91_r0
  let v225_r0 : BitVec 32 := Scalar.muli c512_i32_146_r0 v111_r0
  ![v224_r0.toNat, v225_r0.toNat]
def k0_off17 (arg8_r0 : BitVec 32) : Fin 1 → Nat :=
  let c2_i32_144_r0 : BitVec 32 := 2#32
  let v223_r0 : BitVec 32 := Scalar.remui arg8_r0 c2_i32_144_r0
  ![v223_r0.toNat]

def k0_chk1 (i : grid0.Coords) (k0_t1 : Fin k0_t1_loop.trips) (arg5_r0 : BitVec 32) (arg6_r0 : BitVec 32) (arg7_r0 : BitVec 32) (arg8_r0 : BitVec 32) (arg9_r0 : BitVec 32) (arg10_r0 : BitVec 32) : Prop :=
  (∀ (k0_h1 : k0_cond1 i k0_t1 arg9_r0 arg10_r0 = 1#1), ∀ a, (k0_off4 arg5_r0) a + S1x8x512.size a ≤ S2x8x512.size a) ∧
  (∀ (k0_h1 : k0_cond1 i k0_t1 arg9_r0 arg10_r0 = 1#1), ∀ a, (k0_off5 i arg9_r0 arg10_r0) a + S8x512.size a ≤ S4096x4096.size a) ∧
  (∀ (k0_h1 : k0_cond1 i k0_t1 arg9_r0 arg10_r0 = 1#1), ∀ a, (k0_off6 arg5_r0) a + S1.size a ≤ S2.size a) ∧
  (∀ (k0_h2 : k0_cond2 i k0_t1 arg9_r0 arg10_r0 = 1#1), ∀ a, (k0_off7 arg6_r0) a + S1x8x512.size a ≤ S2x8x512.size a) ∧
  (∀ (k0_h2 : k0_cond2 i k0_t1 arg9_r0 arg10_r0 = 1#1), ∀ a, (k0_off8 i arg9_r0 arg10_r0) a + S8x512.size a ≤ S4096x4096.size a) ∧
  (∀ (k0_h2 : k0_cond2 i k0_t1 arg9_r0 arg10_r0 = 1#1), ∀ a, (k0_off9 arg6_r0) a + S1.size a ≤ S2.size a) ∧
  (∀ (k0_h5 : k0_cond5 i k0_t1 arg9_r0 arg10_r0 = 1#1), ∀ a, (k0_off12 arg7_r0) a + S1x8x512.size a ≤ S2x8x512.size a) ∧
  (∀ (k0_h5 : k0_cond5 i k0_t1 arg9_r0 arg10_r0 = 1#1), ∀ a, (k0_off13 i arg9_r0 arg10_r0) a + S8x512.size a ≤ S4096x4096.size a) ∧
  (∀ (k0_h5 : k0_cond5 i k0_t1 arg9_r0 arg10_r0 = 1#1), ∀ a, (k0_off14 arg7_r0) a + S1.size a ≤ S2.size a) ∧
  (∀ (k0_h7 : k0_cond7 i k0_t1 arg9_r0 arg10_r0 = 1#1), ∀ a, (k0_off15 arg8_r0) a + S1x8x512.size a ≤ S2x8x512.size a) ∧
  (∀ (k0_h7 : k0_cond7 i k0_t1 arg9_r0 arg10_r0 = 1#1), ∀ a, (k0_off16 i arg9_r0 arg10_r0) a + S8x512.size a ≤ S4096x4096.size a) ∧
  (∀ (k0_h7 : k0_cond7 i k0_t1 arg9_r0 arg10_r0 = 1#1), ∀ a, (k0_off17 arg8_r0) a + S1.size a ≤ S2.size a)
theorem k0_off4_inb : ∀ (i : grid0.Coords) (k0_t1 : Fin k0_t1_loop.trips) (arg5_r0 : BitVec 32) (arg6_r0 : BitVec 32) (arg7_r0 : BitVec 32) (arg8_r0 : BitVec 32) (arg9_r0 : BitVec 32) (arg10_r0 : BitVec 32) (k0_hw1 : k0_chk1 i k0_t1 arg5_r0 arg6_r0 arg7_r0 arg8_r0 arg9_r0 arg10_r0), ∀ (k0_h1 : k0_cond1 i k0_t1 arg9_r0 arg10_r0 = 1#1), ∀ a, (k0_off4 arg5_r0) a + S1x8x512.size a ≤ S2x8x512.size a := fun i k0_t1 arg5_r0 arg6_r0 arg7_r0 arg8_r0 arg9_r0 arg10_r0 k0_hw1 k0_h1 => k0_hw1.1 k0_h1
theorem k0_off5_inb : ∀ (i : grid0.Coords) (k0_t1 : Fin k0_t1_loop.trips) (arg5_r0 : BitVec 32) (arg6_r0 : BitVec 32) (arg7_r0 : BitVec 32) (arg8_r0 : BitVec 32) (arg9_r0 : BitVec 32) (arg10_r0 : BitVec 32) (k0_hw1 : k0_chk1 i k0_t1 arg5_r0 arg6_r0 arg7_r0 arg8_r0 arg9_r0 arg10_r0), ∀ (k0_h1 : k0_cond1 i k0_t1 arg9_r0 arg10_r0 = 1#1), ∀ a, (k0_off5 i arg9_r0 arg10_r0) a + S8x512.size a ≤ S4096x4096.size a := fun i k0_t1 arg5_r0 arg6_r0 arg7_r0 arg8_r0 arg9_r0 arg10_r0 k0_hw1 k0_h1 => k0_hw1.2.1 k0_h1
theorem k0_off6_inb : ∀ (i : grid0.Coords) (k0_t1 : Fin k0_t1_loop.trips) (arg5_r0 : BitVec 32) (arg6_r0 : BitVec 32) (arg7_r0 : BitVec 32) (arg8_r0 : BitVec 32) (arg9_r0 : BitVec 32) (arg10_r0 : BitVec 32) (k0_hw1 : k0_chk1 i k0_t1 arg5_r0 arg6_r0 arg7_r0 arg8_r0 arg9_r0 arg10_r0), ∀ (k0_h1 : k0_cond1 i k0_t1 arg9_r0 arg10_r0 = 1#1), ∀ a, (k0_off6 arg5_r0) a + S1.size a ≤ S2.size a := fun i k0_t1 arg5_r0 arg6_r0 arg7_r0 arg8_r0 arg9_r0 arg10_r0 k0_hw1 k0_h1 => k0_hw1.2.2.1 k0_h1
theorem k0_off7_inb : ∀ (i : grid0.Coords) (k0_t1 : Fin k0_t1_loop.trips) (arg5_r0 : BitVec 32) (arg6_r0 : BitVec 32) (arg7_r0 : BitVec 32) (arg8_r0 : BitVec 32) (arg9_r0 : BitVec 32) (arg10_r0 : BitVec 32) (k0_hw1 : k0_chk1 i k0_t1 arg5_r0 arg6_r0 arg7_r0 arg8_r0 arg9_r0 arg10_r0), ∀ (k0_h2 : k0_cond2 i k0_t1 arg9_r0 arg10_r0 = 1#1), ∀ a, (k0_off7 arg6_r0) a + S1x8x512.size a ≤ S2x8x512.size a := fun i k0_t1 arg5_r0 arg6_r0 arg7_r0 arg8_r0 arg9_r0 arg10_r0 k0_hw1 k0_h2 => k0_hw1.2.2.2.1 k0_h2
theorem k0_off8_inb : ∀ (i : grid0.Coords) (k0_t1 : Fin k0_t1_loop.trips) (arg5_r0 : BitVec 32) (arg6_r0 : BitVec 32) (arg7_r0 : BitVec 32) (arg8_r0 : BitVec 32) (arg9_r0 : BitVec 32) (arg10_r0 : BitVec 32) (k0_hw1 : k0_chk1 i k0_t1 arg5_r0 arg6_r0 arg7_r0 arg8_r0 arg9_r0 arg10_r0), ∀ (k0_h2 : k0_cond2 i k0_t1 arg9_r0 arg10_r0 = 1#1), ∀ a, (k0_off8 i arg9_r0 arg10_r0) a + S8x512.size a ≤ S4096x4096.size a := fun i k0_t1 arg5_r0 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg5_r0 : BitVec 32) (arg6_r0 : BitVec 32) (arg7_r0 : BitVec 32) (arg8_r0 : BitVec 32) (arg9_r0 : BitVec 32) (arg10_r0 : BitVec 32) (k0_hw1 : k0_chk1 i k0_t1 arg5_r0 arg6_r0 arg7_r0 arg8_r0 arg9_r0 arg10_r0), ∀ (k0_h2 : k0_cond2 i k0_t1 arg9_r0 arg10_r0 = 1#1), ∀ a, (k0_off9 arg6_r0) a + S1.size a ≤ S2.size a := fun i k0_t1 arg5_r0 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg5_r0 : BitVec 32) (arg6_r0 : BitVec 32) (arg7_r0 : BitVec 32) (arg8_r0 : BitVec 32) (arg9_r0 : BitVec 32) (arg10_r0 : BitVec 32) (k0_hw1 : k0_chk1 i k0_t1 arg5_r0 arg6_r0 arg7_r0 arg8_r0 arg9_r0 arg10_r0), ∀ (k0_h5 : k0_cond5 i k0_t1 arg9_r0 arg10_r0 = 1#1), ∀ a, (k0_off12 arg7_r0) a + S1x8x512.size a ≤ S2x8x512.size a := fun i k0_t1 arg5_r0 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg5_r0 : BitVec 32) (arg6_r0 : BitVec 32) (arg7_r0 : BitVec 32) (arg8_r0 : BitVec 32) (arg9_r0 : BitVec 32) (arg10_r0 : BitVec 32) (k0_hw1 : k0_chk1 i k0_t1 arg5_r0 arg6_r0 arg7_r0 arg8_r0 arg9_r0 arg10_r0), ∀ (k0_h5 : k0_cond5 i k0_t1 arg9_r0 arg10_r0 = 1#1), ∀ a, (k0_off13 i arg9_r0 arg10_r0) a + S8x512.size a ≤ S4096x4096.size a := fun i k0_t1 arg5_r0 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg5_r0 : BitVec 32) (arg6_r0 : BitVec 32) (arg7_r0 : BitVec 32) (arg8_r0 : BitVec 32) (arg9_r0 : BitVec 32) (arg10_r0 : BitVec 32) (k0_hw1 : k0_chk1 i k0_t1 arg5_r0 arg6_r0 arg7_r0 arg8_r0 arg9_r0 arg10_r0), ∀ (k0_h5 : k0_cond5 i k0_t1 arg9_r0 arg10_r0 = 1#1), ∀ a, (k0_off14 arg7_r0) a + S1.size a ≤ S2.size a := fun i k0_t1 arg5_r0 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg5_r0 : BitVec 32) (arg6_r0 : BitVec 32) (arg7_r0 : BitVec 32) (arg8_r0 : BitVec 32) (arg9_r0 : BitVec 32) (arg10_r0 : BitVec 32) (k0_hw1 : k0_chk1 i k0_t1 arg5_r0 arg6_r0 arg7_r0 arg8_r0 arg9_r0 arg10_r0), ∀ (k0_h7 : k0_cond7 i k0_t1 arg9_r0 arg10_r0 = 1#1), ∀ a, (k0_off15 arg8_r0) a + S1x8x512.size a ≤ S2x8x512.size a := fun i k0_t1 arg5_r0 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg5_r0 : BitVec 32) (arg6_r0 : BitVec 32) (arg7_r0 : BitVec 32) (arg8_r0 : BitVec 32) (arg9_r0 : BitVec 32) (arg10_r0 : BitVec 32) (k0_hw1 : k0_chk1 i k0_t1 arg5_r0 arg6_r0 arg7_r0 arg8_r0 arg9_r0 arg10_r0), ∀ (k0_h7 : k0_cond7 i k0_t1 arg9_r0 arg10_r0 = 1#1), ∀ a, (k0_off16 i arg9_r0 arg10_r0) a + S8x512.size a ≤ S4096x4096.size a := fun i k0_t1 arg5_r0 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg5_r0 : BitVec 32) (arg6_r0 : BitVec 32) (arg7_r0 : BitVec 32) (arg8_r0 : BitVec 32) (arg9_r0 : BitVec 32) (arg10_r0 : BitVec 32) (k0_hw1 : k0_chk1 i k0_t1 arg5_r0 arg6_r0 arg7_r0 arg8_r0 arg9_r0 arg10_r0), ∀ (k0_h7 : k0_cond7 i k0_t1 arg9_r0 arg10_r0 = 1#1), ∀ a, (k0_off17 arg8_r0) a + S1.size a ≤ S2.size a := fun i k0_t1 arg5_r0 arg6_r0 arg7_r0 arg8_r0 arg9_r0 arg10_r0 k0_hw1 k0_h7 => k0_hw1.2.2.2.2.2.2.2.2.2.2.2 k0_h7

def k0_off18 (v46_3_r0 : BitVec 32) : Fin 3 → Nat :=
  let c2_i32_76_r0 : BitVec 32 := 2#32
  let v87_r0 : BitVec 32 := Scalar.remui v46_3_r0 c2_i32_76_r0
  let c0_i32_78_r0 : BitVec 32 := 0#32
  let c0_i32_79_r0 : BitVec 32 := 0#32
  ![v87_r0.toNat, 0, 0]

def k0_off19 (i : grid0.Coords) (v46_5_r0 : BitVec 32) (v46_4_r0 : BitVec 32) : Fin 2 → Nat :=
  let c8_i32_77_r0 : BitVec 32 := 8#32
  let true_45_r0 : BitVec 1 := 1#1
  let c1_i32_44_r0 : BitVec 32 := 1#32
  let v47_r0 : BitVec 32 := Scalar.subi v46_5_r0 c1_i32_44_r0
  let v48_r0 : BitVec 32 := Scalar.select true_45_r0 v47_r0 v46_5_r0
  let c_m1_i32_46_r0 : BitVec 32 := 4294967295#32
  let v49_r0 : BitVec 1 := Scalar.cmpi .eq v48_r0 c_m1_i32_46_r0
  let c1_i32_48_r0 : BitVec 32 := 1#32
  let v51_r0 : BitVec 32 := Scalar.subi v46_4_r0 c1_i32_48_r0
  let v52_r0 : BitVec 32 := Scalar.select v49_r0 v51_r0 v46_4_r0
  let c_m1_i32_49_r0 : BitVec 32 := 4294967295#32
  let v53_r0 : BitVec 1 := Scalar.cmpi .eq v52_r0 c_m1_i32_49_r0
  let c15_i32_50_r0 : BitVec 32 := 15#32
  let v54_r0 : BitVec 32 := Scalar.select v53_r0 c15_i32_50_r0 v52_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v55_r0 : BitVec 32 := Scalar.addi v54_r0 v4
  let v88_r0 : BitVec 32 := Scalar.muli c8_i32_77_r0 v55_r0
  let c512_i32_r0 : BitVec 32 := 512#32
  let c7_i32_47_r0 : BitVec 32 := 7#32
  let v50_r0 : BitVec 32 := Scalar.select v49_r0 c7_i32_47_r0 v48_r0
  let c0_i32_51_r0 : BitVec 32 := 0#32
  let v56_r0 : BitVec 32 := Scalar.addi v50_r0 c0_i32_51_r0
  let v89_r0 : BitVec 32 := Scalar.muli c512_i32_r0 v56_r0
  ![v88_r0.toNat, v89_r0.toNat]

def k0_chk5 (i : grid0.Coords) (v46_5_r0 : BitVec 32) (v46_4_r0 : BitVec 32) : Prop :=
  (∀ a, (k0_off19 i v46_5_r0 v46_4_r0) a + S8x512.size a ≤ S4096x4096.size a)
theorem k0_off19_inb : ∀ (i : grid0.Coords) (v46_5_r0 : BitVec 32) (v46_4_r0 : BitVec 32) (k0_hw5 : k0_chk5 i v46_5_r0 v46_4_r0), ∀ a, (k0_off19 i v46_5_r0 v46_4_r0) a + S8x512.size a ≤ S4096x4096.size a := fun i v46_5_r0 v46_4_r0 k0_hw5 => k0_hw5

def k0_off20 (v46_3_r0 : BitVec 32) : Fin 1 → Nat :=
  let c2_i32_76_r0 : BitVec 32 := 2#32
  let v87_r0 : BitVec 32 := Scalar.remui v46_3_r0 c2_i32_76_r0
  ![v87_r0.toNat]
def k0_off21 (v46_3_r0 : BitVec 32) : Fin 3 → Nat :=
  let c2_i32_76_r0 : BitVec 32 := 2#32
  let v87_r0 : BitVec 32 := Scalar.remui v46_3_r0 c2_i32_76_r0
  let c0_i32_80_r0 : BitVec 32 := 0#32
  let c0_i32_81_r0 : BitVec 32 := 0#32
  ![v87_r0.toNat, 0, 0]

def k0_chk4 (v46_3_r0 : BitVec 32) : Prop :=
  (∀ a, (k0_off18 v46_3_r0) a + S1x8x512.size a ≤ S2x8x512.size a) ∧
  (∀ a, (k0_off20 v46_3_r0) a + S1.size a ≤ S2.size a) ∧
  (∀ a, (k0_off21 v46_3_r0) a + S1x8x512.size a ≤ S2x8x512.size a)
theorem k0_off18_inb : ∀ (v46_3_r0 : BitVec 32) (k0_hw4 : k0_chk4 v46_3_r0), ∀ a, (k0_off18 v46_3_r0) a + S1x8x512.size a ≤ S2x8x512.size a := fun v46_3_r0 k0_hw4 => k0_hw4.1
theorem k0_off20_inb : ∀ (v46_3_r0 : BitVec 32) (k0_hw4 : k0_chk4 v46_3_r0), ∀ a, (k0_off20 v46_3_r0) a + S1.size a ≤ S2.size a := fun v46_3_r0 k0_hw4 => k0_hw4.2.1
theorem k0_off21_inb : ∀ (v46_3_r0 : BitVec 32) (k0_hw4 : k0_chk4 v46_3_r0), ∀ a, (k0_off21 v46_3_r0) a + S1x8x512.size a ≤ S2x8x512.size a := fun v46_3_r0 k0_hw4 => k0_hw4.2.2

abbrev grid1 : Pipeline.Grid := ⟨1, ![8], ![false]⟩

def k1_cond1 (i : grid1.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_10 : BitVec 32 := 0#32
  let v13 : BitVec 1 := Scalar.cmpi .ne v12 c0_i32_10
  v13

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .smem S4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S32x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S32x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S32x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .smem S4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S32x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x4096 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S32x4096 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S512x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .smem S4 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S32x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S512x4096 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x4096 : Shape := ⟨2, ![32, 4096]⟩
abbrev S4096x4096 : Shape := ⟨2, ![4096, 4096]⟩
abbrev S4096 : Shape := ⟨1, ![4096]⟩
abbrev S1x3 : Shape := ⟨2, ![1, 3]⟩
abbrev S1 : Shape := ⟨1, ![1]⟩
abbrev S1x4096 : Shape := ⟨2, ![1, 4096]⟩
abbrev S_ : Shape := ⟨0, ![]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S32x32x1 : Shape := ⟨3, ![32, 32, 1]⟩
abbrev S32x32x3 : Shape := ⟨3, ![32, 32, 3]⟩
abbrev S3 : Shape := ⟨1, ![3]⟩
abbrev S2 : Shape := ⟨1, ![2]⟩

abbrev nBuf : Space → Nat
  | .hbm => 105
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S1x3, .f32⟩
  | .hbm, ⟨8, _⟩ => ⟨S1, .f32⟩
  | .hbm, ⟨9, _⟩ => ⟨S4096x4096, .f32⟩
  | .hbm, ⟨10, _⟩ => ⟨S32x4096, .f32⟩
  | .hbm, ⟨11, _⟩ => ⟨S1x4096, .f32⟩
  | .hbm, ⟨12, _⟩ => ⟨S32x4096, .f32⟩
  | .hbm, ⟨13, _⟩ => ⟨S32x4096, .f32⟩
  | .hbm, ⟨14, _⟩ => ⟨S_, .f32⟩
  | .hbm, ⟨15, _⟩ => ⟨S32x4096, .f32⟩
  | .hbm, ⟨16, _⟩ => ⟨S32x4096, .f32⟩
  | .hbm, ⟨17, _⟩ => ⟨S4096x4096, .f32⟩
  | .hbm, ⟨18, _⟩ => ⟨S32x4096, .f32⟩
  | .hbm, ⟨19, _⟩ => ⟨S1x4096, .f32⟩
  | .hbm, ⟨20, _⟩ => ⟨S32x4096, .f32⟩
  | .hbm, ⟨21, _⟩ => ⟨S32x4096, .f32⟩
  | .hbm, ⟨22, _⟩ => ⟨S_, .f32⟩
  | .hbm, ⟨23, _⟩ => ⟨S32x4096, .f32⟩
  | .hbm, ⟨24, _⟩ => ⟨S32x4096, .f32⟩
  | .hbm, ⟨25, _⟩ => ⟨S4096x4096, .f32⟩
  | .hbm, ⟨26, _⟩ => ⟨S32x4096, .f32⟩
  | .hbm, ⟨27, _⟩ => ⟨S1x4096, .f32⟩
  | .hbm, ⟨28, _⟩ => ⟨S32x4096, .f32⟩
  | .hbm, ⟨29, _⟩ => ⟨S32x4096, .f32⟩
  | .hbm, ⟨30, _⟩ => ⟨S_, .f32⟩
  | .hbm, ⟨31, _⟩ => ⟨S32x4096, .f32⟩
  | .hbm, ⟨32, _⟩ => ⟨S32x4096, .f32⟩
  | .hbm, ⟨33, _⟩ => ⟨S1x32, .f32⟩
  | .hbm, ⟨34, _⟩ => ⟨S32, .f32⟩
  | .hbm, ⟨35, _⟩ => ⟨S1x32, .f32⟩
  | .hbm, ⟨36, _⟩ => ⟨S32, .f32⟩
  | .hbm, ⟨37, _⟩ => ⟨S32x32, .f32⟩
  | .hbm, ⟨38, _⟩ => ⟨S1x32, .f32⟩
  | .hbm, ⟨39, _⟩ => ⟨S32x32, .f32⟩
  | .hbm, ⟨40, _⟩ => ⟨S32x1, .f32⟩
  | .hbm, ⟨41, _⟩ => ⟨S32x32, .f32⟩
  | .hbm, ⟨42, _⟩ => ⟨S32x32x1, .f32⟩
  | .hbm, ⟨43, _⟩ => ⟨S32x32x1, .f32⟩
  | .hbm, ⟨44, _⟩ => ⟨S32x32x1, .f32⟩
  | .hbm, ⟨45, _⟩ => ⟨S32x32x3, .f32⟩
  | .hbm, ⟨46, _⟩ => ⟨S3, .f32⟩
  | .hbm, ⟨47, _⟩ => ⟨S32x32, .f32⟩
  | .hbm, ⟨48, _⟩ => ⟨S_, .f32⟩
  | .hbm, ⟨49, _⟩ => ⟨S32x32, .f32⟩
  | .hbm, ⟨50, _⟩ => ⟨S32x32, .f32⟩
  | .hbm, ⟨51, _⟩ => ⟨S_, .i32⟩
  | .hbm, ⟨52, _⟩ => ⟨S1, .i32⟩
  | .hbm, ⟨53, _⟩ => ⟨S_, .i32⟩
  | .hbm, ⟨54, _⟩ => ⟨S1, .i32⟩
  | .hbm, ⟨55, _⟩ => ⟨S2, .i32⟩
  | .hbm, ⟨56, _⟩ => ⟨S4096x4096, .f32⟩
  | .hbm, ⟨57, _⟩ => ⟨S1x32, .f32⟩
  | .hbm, ⟨58, _⟩ => ⟨S32, .f32⟩
  | .hbm, ⟨59, _⟩ => ⟨S1x32, .f32⟩
  | .hbm, ⟨60, _⟩ => ⟨S32, .f32⟩
  | .hbm, ⟨61, _⟩ => ⟨S32x32, .f32⟩
  | .hbm, ⟨62, _⟩ => ⟨S1x32, .f32⟩
  | .hbm, ⟨63, _⟩ => ⟨S32x32, .f32⟩
  | .hbm, ⟨64, _⟩ => ⟨S32x1, .f32⟩
  | .hbm, ⟨65, _⟩ => ⟨S32x32, .f32⟩
  | .hbm, ⟨66, _⟩ => ⟨S32x32x1, .f32⟩
  | .hbm, ⟨67, _⟩ => ⟨S32x32x1, .f32⟩
  | .hbm, ⟨68, _⟩ => ⟨S32x32x1, .f32⟩
  | .hbm, ⟨69, _⟩ => ⟨S32x32x3, .f32⟩
  | .hbm, ⟨70, _⟩ => ⟨S3, .f32⟩
  | .hbm, ⟨71, _⟩ => ⟨S32x32, .f32⟩
  | .hbm, ⟨72, _⟩ => ⟨S_, .f32⟩
  | .hbm, ⟨73, _⟩ => ⟨S32x32, .f32⟩
  | .hbm, ⟨74, _⟩ => ⟨S32x32, .f32⟩
  | .hbm, ⟨75, _⟩ => ⟨S_, .i32⟩
  | .hbm, ⟨76, _⟩ => ⟨S1, .i32⟩
  | .hbm, ⟨77, _⟩ => ⟨S_, .i32⟩
  | .hbm, ⟨78, _⟩ => ⟨S1, .i32⟩
  | .hbm, ⟨79, _⟩ => ⟨S2, .i32⟩
  | .hbm, ⟨80, _⟩ => ⟨S4096x4096, .f32⟩
  | .hbm, ⟨81, _⟩ => ⟨S1x32, .f32⟩
  | .hbm, ⟨82, _⟩ => ⟨S32, .f32⟩
  | .hbm, ⟨83, _⟩ => ⟨S1x32, .f32⟩
  | .hbm, ⟨84, _⟩ => ⟨S32, .f32⟩
  | .hbm, ⟨85, _⟩ => ⟨S32x32, .f32⟩
  | .hbm, ⟨86, _⟩ => ⟨S1x32, .f32⟩
  | .hbm, ⟨87, _⟩ => ⟨S32x32, .f32⟩
  | .hbm, ⟨88, _⟩ => ⟨S32x1, .f32⟩
  | .hbm, ⟨89, _⟩ => ⟨S32x32, .f32⟩
  | .hbm, ⟨90, _⟩ => ⟨S32x32x1, .f32⟩
  | .hbm, ⟨91, _⟩ => ⟨S32x32x1, .f32⟩
  | .hbm, ⟨92, _⟩ => ⟨S32x32x1, .f32⟩
  | .hbm, ⟨93, _⟩ => ⟨S32x32x3, .f32⟩
  | .hbm, ⟨94, _⟩ => ⟨S3, .f32⟩
  | .hbm, ⟨95, _⟩ => ⟨S32x32, .f32⟩
  | .hbm, ⟨96, _⟩ => ⟨S_, .f32⟩
  | .hbm, ⟨97, _⟩ => ⟨S32x32, .f32⟩
  | .hbm, ⟨98, _⟩ => ⟨S32x32, .f32⟩
  | .hbm, ⟨99, _⟩ => ⟨S_, .i32⟩
  | .hbm, ⟨100, _⟩ => ⟨S1, .i32⟩
  | .hbm, ⟨101, _⟩ => ⟨S_, .i32⟩
  | .hbm, ⟨102, _⟩ => ⟨S1, .i32⟩
  | .hbm, ⟨103, _⟩ => ⟨S2, .i32⟩
  | .hbm, ⟨104, _⟩ => ⟨S4096x4096, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call2_cst : Ref sig .tc := ⟨.hbm, 30, rfl⟩
abbrev main_call2_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c : Ref sig .tc := ⟨.hbm, 51, rfl⟩
abbrev main_v36 : Ref sig .tc := ⟨.hbm, 52, rfl⟩
abbrev main_c_0 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_1 : Ref sig .tc := ⟨.hbm, 75, rfl⟩
abbrev main_v58 : Ref sig .tc := ⟨.hbm, 76, rfl⟩
abbrev main_c_2 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_c_3 : Ref sig .tc := ⟨.hbm, 99, rfl⟩
abbrev main_v80 : Ref sig .tc := ⟨.hbm, 100, rfl⟩
abbrev main_c_4 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩

abbrev nD : Nat := 1
abbrev τ : Topo := Topo.v7x

variable {F : FTy → Type} [FloatOps F]
-- ==== Proof.Offsets.lean ====
/-
  The SparseCore kernel's addresses in closed form. A tile copies its 128 rows of the table in 128 blocks of 8 rows by 512
  columns; the copy of block `k + 1` into the tile's memory is in flight while block `k` goes out. What the loop carries
  at trip `k` is a function of `k` (`w5 … w10`), so every slice the kernel takes at trip `k` is one of: block `b` of the
  table, block `b` of the result, slot `k % 2` of a staging buffer, that slot's semaphore.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Launch
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Ring
public import Idealize.ShloMosaic.Lib.Affine
public import Idealize.ShloMosaic.Lib.Tactic

@[expose] public section

noncomputable section

namespace Cert.Proof.Tile

open Cert.KernelIdeal Cert.KernelIdeal.Gen
open Idealize.ShloMosaic
open Idealize.ShloMosaic.Tactic

/-! ## What the loop carries before trip `k` -/

def w5 (k : ℕ) : BitVec 32 := BitVec.ofNat 32 (min (k + 1) 128)
def w6 (k : ℕ) : BitVec 32 := BitVec.ofNat 32 k
def w7 (k : ℕ) : BitVec 32 := BitVec.ofNat 32 k
def w8 (k : ℕ) : BitVec 32 := BitVec.ofNat 32 (k - 1)
def w9 (k : ℕ) : BitVec 32 := BitVec.ofNat 32 (k / 8 % 16)
def w10 (k : ℕ) : BitVec 32 := BitVec.ofNat 32 (k % 8)
abbrev carried (k : ℕ) : BitVec 32 × BitVec 32 × BitVec 32 × BitVec 32 × BitVec 32 × BitVec 32 := (w5 k, w6 k, w7 k, w8 k, w9 k, w10 k)

theorem trips_eq : k0_t1_loop.trips = 128 := by decide +kernel

/-! ## Blocks and slots -/

/-- Where block `b` of the tile at coordinates `i` starts in the table: the tile's rows, block by block along the columns. -/
abbrev blkOff (i : grid0.Coords) (b : Fin 128) : Fin 2 → Nat := ![128 * (i 1).val + 2048 * (i 0).val + 8 * (b.val / 8), 512 * (b.val % 8)]
theorem blkOff_inb (i : grid0.Coords) (b : Fin 128) : ∀ a, blkOff i b a + S8x512.size a ≤ S4096x4096.size a := by
  have h0 : (i 0).val < 2 := (i 0).isLt
  have h1 : (i 1).val < 16 := (i 1).isLt
  have := b.isLt; intro a; fin_cases a
  · show 128 * (i 1).val + 2048 * (i 0).val + 8 * (b.val / 8) + 8 ≤ 4096; omega
  · show 512 * (b.val % 8) + 512 ≤ 4096; omega
abbrev slotOff (s : Fin 2) : Fin 3 → Nat := ![s.val, 0, 0]
theorem slotOff_inb (s : Fin 2) : ∀ a, slotOff s a + S1x8x512.size a ≤ S2x8x512.size a := by
  have := s.isLt; intro a; fin_cases a
  · show s.val + 1 ≤ 2; omega
  · show 0 + 8 ≤ 8; omega
  · show 0 + 512 ≤ 512; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-! ## The kernel's offsets, conditions and checks at trip `k` -/

theorem off4_eq : ∀ k : Fin k0_t1_loop.trips, k0_off4 (w5 k.val) = slotOff (Ring.sl 2 (k.val + 1)) := by decide +kernel
theorem off6_eq : ∀ k : Fin k0_t1_loop.trips, k0_off6 (w5 k.val) = semOff (Ring.sl 2 (k.val + 1)) := by decide +kernel
theorem off7_eq : ∀ k : Fin k0_t1_loop.trips, k0_off7 (w6 k.val) = slotOff (Ring.sl 2 k.val) := by decide +kernel
theorem off9_eq : ∀ k : Fin k0_t1_loop.trips, k0_off9 (w6 k.val) = semOff (Ring.sl 2 k.val) := by decide +kernel
theorem off10_eq : ∀ k : Fin k0_t1_loop.trips, k0_off10 (w6 k.val) = slotOff (Ring.sl 2 k.val) := by decide +kernel
theorem off11_eq : ∀ k : Fin k0_t1_loop.trips, k0_off11 (w7 k.val) = slotOff (Ring.sl 2 k.val) := by decide +kernel
theorem off12_eq : ∀ k : Fin k0_t1_loop.trips, k0_off12 (w7 k.val) = slotOff (Ring.sl 2 k.val) := by decide +kernel
theorem off14_eq : ∀ k : Fin k0_t1_loop.trips, k0_off14 (w7 k.val) = semOff (Ring.sl 2 k.val) := by decide +kernel
theorem off15_eq : ∀ k : Fin k0_t1_loop.trips, 0 < k.val → k0_off15 (w8 k.val) = slotOff (Ring.sl 2 (k.val + 1)) := by decide +kernel
theorem off17_eq : ∀ k : Fin k0_t1_loop.trips, 0 < k.val → k0_off17 (w8 k.val) = semOff (Ring.sl 2 (k.val + 1)) := by decide +kernel
theorem off5_eq : ∀ (i : grid0.Coords) (k : Fin k0_t1_loop.trips), k.val + 1 < 128 → k0_off5 i (w9 k.val) (w10 k.val) = blkOff i (Ring.bk 128 (k.val + 1)) := by decide +kernel
theorem off8_eq : ∀ (i : grid0.Coords) (k : Fin k0_t1_loop.trips), k0_off8 i (w9 k.val) (w10 k.val) = blkOff i (Ring.bk 128 k.val) := by decide +kernel
theorem off13_eq : ∀ (i : grid0.Coords) (k : Fin k0_t1_loop.trips), k0_off13 i (w9 k.val) (w10 k.val) = blkOff i (Ring.bk 128 k.val) := by decide +kernel
theorem off16_eq : ∀ (i : grid0.Coords) (k : Fin k0_t1_loop.trips), 0 < k.val → k0_off16 i (w9 k.val) (w10 k.val) = blkOff i (Ring.bk 128 (k.val - 1)) := by decide +kernel
theorem cond1_pos : ∀ (i : grid0.Coords) (k : Fin k0_t1_loop.trips), k.val + 1 < 128 → k0_cond1 i k (w9 k.val) (w10 k.val) = 1#1 := by decide +kernel
theorem cond1_neg : ∀ (i : grid0.Coords) (k : Fin k0_t1_loop.trips), ¬ k.val + 1 < 128 → ¬ k0_cond1 i k (w9 k.val) (w10 k.val) = 1#1 := by decide +kernel
theorem cond2_pos : ∀ (i : grid0.Coords) (k : Fin k0_t1_loop.trips), k0_cond2 i k (w9 k.val) (w10 k.val) = 1#1 := by decide +kernel
theorem cond5_pos : ∀ (i : grid0.Coords) (k : Fin k0_t1_loop.trips), k0_cond5 i k (w9 k.val) (w10 k.val) = 1#1 := by decide +kernel
theorem cond7_pos : ∀ (i : grid0.Coords) (k : Fin k0_t1_loop.trips), 0 < k.val → k0_cond7 i k (w9 k.val) (w10 k.val) = 1#1 := by decide +kernel
theorem cond7_neg : ∀ (i : grid0.Coords) (k : Fin k0_t1_loop.trips), ¬ 0 < k.val → ¬ k0_cond7 i k (w9 k.val) (w10 k.val) = 1#1 := by decide +kernel
theorem off18_eq : k0_off18 (w8 128) = slotOff 1 := by decide +kernel
theorem off19_eq : ∀ i : grid0.Coords, k0_off19 i (w10 128) (w9 128) = blkOff i (Ring.bk 128 127) := by decide +kernel
theorem off20_eq : k0_off20 (w8 128) = semOff 1 := by decide +kernel
theorem off21_eq : k0_off21 (w8 128) = slotOff 1 := by decide +kernel

theorem chk3_ok (k : Fin k0_t1_loop.trips) : k0_chk3 (w7 k.val) := by
  unfold k0_chk3; rw [off11_eq k]; exact slotOff_inb _
theorem chk2_ok (k : Fin k0_t1_loop.trips) : k0_chk2 (w6 k.val) := by
  unfold k0_chk2; rw [off10_eq k]; exact slotOff_inb _
theorem chk1_ok (i : grid0.Coords) (k : Fin k0_t1_loop.trips) : k0_chk1 i k (w5 k.val) (w6 k.val) (w7 k.val) (w8 k.val) (w9 k.val) (w10 k.val) := by
  refine ⟨fun _ => ?_, fun h => ?_, fun _ => ?_, fun _ => ?_, fun _ => ?_, fun _ => ?_, fun _ => ?_, fun _ => ?_, fun _ => ?_, fun h => ?_, fun h => ?_, fun h => ?_⟩
  · rw [off4_eq]; exact slotOff_inb _
  · rw [off5_eq i k (by by_contra hk; exact cond1_neg i k hk h)]; exact blkOff_inb _ _
  · rw [off6_eq]; exact semOff_inb _
  · rw [off7_eq]; exact slotOff_inb _
  · rw [off8_eq]; exact blkOff_inb _ _
  · rw [off9_eq]; exact semOff_inb _
  · rw [off12_eq]; exact slotOff_inb _
  · rw [off13_eq]; exact blkOff_inb _ _
  · rw [off14_eq]; exact semOff_inb _
  all_goals have hk : 0 < k.val := by by_contra hk; exact cond7_neg i k hk h
  · rw [off15_eq k hk]; exact slotOff_inb _
  · rw [off16_eq i k hk]; exact blkOff_inb _ _
  · rw [off17_eq k hk]; exact semOff_inb _
theorem chk5_ok (i : grid0.Coords) : k0_chk5 i (w10 128) (w9 128) := by
  unfold k0_chk5; rw [off19_eq i]; exact blkOff_inb _ _
theorem chk4_ok : k0_chk4 (w8 128) := by
  refine ⟨?_, ?_, ?_⟩
  · rw [off18_eq]; exact slotOff_inb _
  · rw [off20_eq]; exact semOff_inb _
  · rw [off21_eq]; exact slotOff_inb _

theorem w5_zero : w5 0 = 1#32 := by decide
theorem w6_zero : w6 0 = 0#32 := by decide
theorem w7_zero : w7 0 = 0#32 := by decide
theorem w8_zero : w8 0 = 0#32 := by decide
theorem w9_zero : w9 0 = 0#32 := by decide
theorem w10_zero : w10 0 = 0#32 := by decide

end Cert.Proof.Tile
-- ==== Proof.Tile.lean ====
/-
  One tile of the SparseCore kernel: what it holds at each trip of its loop, and its run.
-/
module

public import proofs.«01_k».proof.Proof.Offsets
public import Idealize.ShloMosaic.Lib.Pipeline.Value

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 3) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipelines' rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL

/-! ## The buffers -/

abbrev xLoc (d : Dev nD) : Loc nD τ sig := (SparseCore.T d).loc main_arg1
abbrev oLoc (d : Dev nD) : Loc nD τ sig := (SparseCore.T d).loc main_v2

local notation "xV" => (Memref.whole Cert.KernelIdeal.main_arg1_scv : Memref Cert.KernelIdeal.sig Kind.scVector Space.hbm Cert.KernelIdeal.S4096x4096 EltTy.f32)
local notation "oV" => (Memref.whole Cert.KernelIdeal.main_v2_scv : Memref Cert.KernelIdeal.sig Kind.scVector Space.hbm Cert.KernelIdeal.S4096x4096 EltTy.f32)
local notation "inV" => (Memref.whole Cert.KernelIdeal.cc0_scoped0 : Memref Cert.KernelIdeal.sig Kind.scVector Space.vmem Cert.KernelIdeal.S2x8x512 EltTy.f32)
local notation "outV" => (Memref.whole Cert.KernelIdeal.cc0_scoped2 : Memref Cert.KernelIdeal.sig Kind.scVector Space.vmem Cert.KernelIdeal.S2x8x512 EltTy.f32)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-! ## Canonical names: block `b` of the table and of the result, slot `s` of each staging buffer, its semaphore -/

def xblk (L : grid0.Coords) (b : Fin 128) : Memref sig .scVector .hbm S8x512 .f32 :=
  (xV).slice (Rect.unit (s := S4096x4096) (blkOff L b) S8x512.size (blkOff_inb L b)) (fun _ => rfl)
def oblk (L : grid0.Coords) (b : Fin 128) : Memref sig .scVector .hbm S8x512 .f32 :=
  (oV).slice (Rect.unit (s := S4096x4096) (blkOff L b) S8x512.size (blkOff_inb L b)) (fun _ => rfl)
def islot (s : Fin 2) : Memref sig .scVector .vmem S8x512 .f32 :=
  ((inV).slice (Rect.unit (s := S2x8x512) (slotOff s) S1x8x512.size (slotOff_inb s)) (fun _ => rfl)).squeeze S8x512 squeezes_S1x8x512_S8x512
def oslot (s : Fin 2) : Memref sig .scVector .vmem S8x512 .f32 :=
  ((outV).slice (Rect.unit (s := S2x8x512) (slotOff s) S1x8x512.size (slotOff_inb s)) (fun _ => rfl)).squeeze S8x512 squeezes_S1x8x512_S8x512
def isem (s : Fin 2) : DmaSems sig S_ := (cc0_scoped1.slice (Rect.unit (s := S2) (semOff s) S1.size (semOff_inb s))).squeeze S_ squeezes_S1_S_
def osem (s : Fin 2) : DmaSems sig S_ := (cc0_scoped3.slice (Rect.unit (s := S2) (semOff s) S1.size (semOff_inb s))).squeeze S_ squeezes_S1_S_

instance (s : Fin 2) : ClosedOff (slotOff s) := ⟨slotOff s, rfl⟩
instance (L : grid0.Coords) (b : Fin 128) : ClosedOff (blkOff L b) := ⟨blkOff L b, rfl⟩
instance (k : Fin k0_t1_loop.trips) : ClosedOff (k0_off10 (w6 k.val)) := ⟨slotOff (Ring.sl 2 k.val), off10_eq k⟩
instance (k : Fin k0_t1_loop.trips) : ClosedOff (k0_off11 (w7 k.val)) := ⟨slotOff (Ring.sl 2 k.val), off11_eq k⟩
instance (k : Fin k0_t1_loop.trips) : ClosedOff (k0_off7 (w6 k.val)) := ⟨slotOff (Ring.sl 2 k.val), off7_eq k⟩
instance (k : Fin k0_t1_loop.trips) : ClosedOff (k0_off12 (w7 k.val)) := ⟨slotOff (Ring.sl 2 k.val), off12_eq k⟩
instance (k : Fin k0_t1_loop.trips) : ClosedOff (k0_off4 (w5 k.val)) := ⟨slotOff (Ring.sl 2 (k.val + 1)), off4_eq k⟩

/-! ### The body's slices are these -/

theorem isem_congr {off : Fin 1 → Nat} {s : Fin 2} (e : off = semOff s) (hh) :
    (cc0_scoped1.slice (Rect.unit (s := S2) off S1.size hh)).squeeze S_ squeezes_S1_S_ = isem s :=
  congrArg (fun A : DmaSems sig S1 => A.squeeze S_ squeezes_S1_S_) (SemArray.slice_unit_congr _ e _ _)
theorem osem_congr {off : Fin 1 → Nat} {s : Fin 2} (e : off = semOff s) (hh) :
    (cc0_scoped3.slice (Rect.unit (s := S2) off S1.size hh)).squeeze S_ squeezes_S1_S_ = osem s :=
  congrArg (fun A : DmaSems sig S1 => A.squeeze S_ squeezes_S1_S_) (SemArray.slice_unit_congr _ e _ _)
theorem islot_congr {off : Fin 3 → Nat} {s : Fin 2} (e : off = slotOff s) (hh hs) :
    ((inV).slice (Rect.unit (s := S2x8x512) off S1x8x512.size hh) hs).squeeze S8x512 squeezes_S1x8x512_S8x512 = islot s :=
  congrArg (fun M : Memref sig .scVector .vmem S1x8x512 .f32 => M.squeeze S8x512 squeezes_S1x8x512_S8x512) (Memref.slice_unit_congr _ e _ _ _ _)
theorem oslot_congr {off : Fin 3 → Nat} {s : Fin 2} (e : off = slotOff s) (hh hs) :
    ((outV).slice (Rect.unit (s := S2x8x512) off S1x8x512.size hh) hs).squeeze S8x512 squeezes_S1x8x512_S8x512 = oslot s :=
  congrArg (fun M : Memref sig .scVector .vmem S1x8x512 .f32 => M.squeeze S8x512 squeezes_S1x8x512_S8x512) (Memref.slice_unit_congr _ e _ _ _ _)
theorem xblk_congr {L : grid0.Coords} {off : Fin 2 → Nat} {b : Fin 128} (e : off = blkOff L b) (hh hs) :
    (xV).slice (Rect.unit (s := S4096x4096) off S8x512.size hh) hs = xblk L b := Memref.slice_unit_congr _ e _ _ _ (fun _ => rfl)
theorem oblk_congr {L : grid0.Coords} {off : Fin 2 → Nat} {b : Fin 128} (e : off = blkOff L b) (hh hs) :
    (oV).slice (Rect.unit (s := S4096x4096) off S8x512.size hh) hs = oblk L b := Memref.slice_unit_congr _ e _ _ _ (fun _ => rfl)

/-- Trip `k`: block `k + 1` fetched into the other slot, block `k` waited for and copied out, block `k - 1` waited out. -/
@[sl_canon] theorem cSlot4 (k : Fin k0_t1_loop.trips) (hh hs) :
    ((inV).slice (Rect.unit (s := S2x8x512) (k0_off4 (w5 k.val)) S1x8x512.size hh) hs).squeeze S8x512 squeezes_S1x8x512_S8x512 = islot (Ring.sl 2 (k.val + 1)) := islot_congr (off4_eq k) _ _
@[sl_canon] theorem cBlk5 (L : grid0.Coords) (k : Fin k0_t1_loop.trips) (hk : k.val + 1 < 128) (hh hs) :
    (xV).slice (Rect.unit (s := S4096x4096) (k0_off5 L (w9 k.val) (w10 k.val)) S8x512.size hh) hs = xblk L (Ring.bk 128 (k.val + 1)) := xblk_congr (off5_eq L k hk) _ _
@[sl_canon] theorem cSem6 (k : Fin k0_t1_loop.trips) (hh) :
    (cc0_scoped1.slice (Rect.unit (s := S2) (k0_off6 (w5 k.val)) S1.size hh)).squeeze S_ squeezes_S1_S_ = isem (Ring.sl 2 (k.val + 1)) := isem_congr (off6_eq k) _
@[sl_canon] theorem cSlot7 (k : Fin k0_t1_loop.trips) (hh hs) :
    ((inV).slice (Rect.unit (s := S2x8x512) (k0_off7 (w6 k.val)) S1x8x512.size hh) hs).squeeze S8x512 squeezes_S1x8x512_S8x512 = islot (Ring.sl 2 k.val) := islot_congr (off7_eq k) _ _
@[sl_canon] theorem cBlk8 (L : grid0.Coords) (k : Fin k0_t1_loop.trips) (hh hs) :
    (xV).slice (Rect.unit (s := S4096x4096) (k0_off8 L (w9 k.val) (w10 k.val)) S8x512.size hh) hs = xblk L (Ring.bk 128 k.val) := xblk_congr (off8_eq L k) _ _
@[sl_canon] theorem cSem9 (k : Fin k0_t1_loop.trips) (hh) :
    (cc0_scoped1.slice (Rect.unit (s := S2) (k0_off9 (w6 k.val)) S1.size hh)).squeeze S_ squeezes_S1_S_ = isem (Ring.sl 2 k.val) := isem_congr (off9_eq k) _
@[sl_canon] theorem cSlot12 (k : Fin k0_t1_loop.trips) (hh hs) :
    ((outV).slice (Rect.unit (s := S2x8x512) (k0_off12 (w7 k.val)) S1x8x512.size hh) hs).squeeze S8x512 squeezes_S1x8x512_S8x512 = oslot (Ring.sl 2 k.val) := oslot_congr (off12_eq k) _ _
@[sl_canon] theorem cBlk13 (L : grid0.Coords) (k : Fin k0_t1_loop.trips) (hh hs) :
    (oV).slice (Rect.unit (s := S4096x4096) (k0_off13 L (w9 k.val) (w10 k.val)) S8x512.size hh) hs = oblk L (Ring.bk 128 k.val) := oblk_congr (off13_eq L k) _ _
@[sl_canon] theorem cSem14 (k : Fin k0_t1_loop.trips) (hh) :
    (cc0_scoped3.slice (Rect.unit (s := S2) (k0_off14 (w7 k.val)) S1.size hh)).squeeze S_ squeezes_S1_S_ = osem (Ring.sl 2 k.val) := osem_congr (off14_eq k) _
@[sl_canon] theorem cSlot15 (k : Fin k0_t1_loop.trips) (hk : 0 < k.val) (hh hs) :
    ((outV).slice (Rect.unit (s := S2x8x512) (k0_off15 (w8 k.val)) S1x8x512.size hh) hs).squeeze S8x512 squeezes_S1x8x512_S8x512 = oslot (Ring.sl 2 (k.val + 1)) := oslot_congr (off15_eq k hk) _ _
@[sl_canon] theorem cBlk16 (L : grid0.Coords) (k : Fin k0_t1_loop.trips) (hk : 0 < k.val) (hh hs) :
    (oV).slice (Rect.unit (s := S4096x4096) (k0_off16 L (w9 k.val) (w10 k.val)) S8x512.size hh) hs = oblk L (Ring.bk 128 (k.val - 1)) := oblk_congr (off16_eq L k hk) _ _
@[sl_canon] theorem cSem17 (k : Fin k0_t1_loop.trips) (hk : 0 < k.val) (hh) :
    (cc0_scoped3.slice (Rect.unit (s := S2) (k0_off17 (w8 k.val)) S1.size hh)).squeeze S_ squeezes_S1_S_ = osem (Ring.sl 2 (k.val + 1)) := osem_congr (off17_eq k hk) _
/-- Before the loop: block 0 into slot 0. -/
@[sl_canon] theorem cSlot1 (hh hs) :
    ((inV).slice (Rect.unit (s := S2x8x512) k0_off1 S1x8x512.size hh) hs).squeeze S8x512 squeezes_S1x8x512_S8x512 = islot 0 := islot_congr k0_off1_eq _ _
@[sl_canon] theorem cBlk2 (L : grid0.Coords) (hh hs) :
    (xV).slice (Rect.unit (s := S4096x4096) (k0_off2 L) S8x512.size hh) hs = xblk L 0 := xblk_congr (k0_off2_eq L) _ _
@[sl_canon] theorem cSem3 (hh) :
    (cc0_scoped1.slice (Rect.unit (s := S2) k0_off3 S1.size hh)).squeeze S_ squeezes_S1_S_ = isem 0 := isem_congr k0_off3_eq _
/-- After it: block 127 out of slot 1. -/
@[sl_canon] theorem cSlot18 (hh hs) :
    ((outV).slice (Rect.unit (s := S2x8x512) (k0_off18 (w8 128)) S1x8x512.size hh) hs).squeeze S8x512 squeezes_S1x8x512_S8x512 = oslot 1 := oslot_congr off18_eq _ _
@[sl_canon] theorem cBlk19 (L : grid0.Coords) (hh hs) :
    (oV).slice (Rect.unit (s := S4096x4096) (k0_off19 L (w10 128) (w9 128)) S8x512.size hh) hs = oblk L (Ring.bk 128 127) := oblk_congr (off19_eq L) _ _
@[sl_canon] theorem cSem20 (hh) :
    (cc0_scoped3.slice (Rect.unit (s := S2) (k0_off20 (w8 128)) S1.size hh)).squeeze S_ squeezes_S1_S_ = osem 1 := osem_congr off20_eq _
@[sl_canon] theorem cSlot21 (hh hs) :
    ((outV).slice (Rect.unit (s := S2x8x512) (k0_off21 (w8 128)) S1x8x512.size hh) hs).squeeze S8x512 squeezes_S1x8x512_S8x512 = oslot 1 := oslot_congr off21_eq _ _

/-! ## The pieces a tile holds -/

variable [FloatOps F]

section Pieces
variable (d : Dev nD) (L : grid0.Coords) (XA : Buf (Elt F) (xLoc d))

abbrev EC : UEmb Counters (MT nD τ sig (HIx 1) (Elt F) ℕ UU ℕ) := countersEmb
/-- Block `b` of the table, at its contents; of the result, at `f`; a slot of each staging buffer; a slot's free semaphore. -/
abbrev xP (b : Fin 128) : sProp 𝕄 := (xblk L b).view.loc (thr d L) ↦[(xblk L b).view.set]{fullShare} XA
abbrev oP (b : Fin 128) (f : Buf (Elt F) (oLoc d)) : sProp 𝕄 := (oblk L b).view.loc (thr d L) ↦[(oblk L b).view.set]{fullShare} f
abbrev inP (s : Fin 2) (f : Buf (Elt F) ((islot s).view.loc (thr d L))) : sProp 𝕄 := (islot s).view.loc (thr d L) ↦[(islot s).view.set]{fullShare} f
abbrev outP (s : Fin 2) (f : Buf (Elt F) ((oslot s).view.loc (thr d L))) : sProp 𝕄 := (oslot s).view.loc (thr d L) ↦[(oslot s).view.set]{fullShare} f
abbrev icell (s : Fin 2) : sProp 𝕄 := semVal (thr d L, SemLoc.dma (isem s).sem) 0
abbrev ocell (s : Fin 2) : sProp 𝕄 := semVal (thr d L, SemLoc.dma (osem s).sem) 0
/-- Block `b`'s words. -/
abbrev payload (b : Fin 128) : S8x512.Idx → Elt F .f32 := ReadAs.same.apply ((xblk L b).view.read (Elt F) XA)
/-- Block `b` on its way into slot `s`. -/
abbrev FI (s : Fin 2) (b : Fin 128) (f : Buf (Elt F) ((islot s).view.loc (thr d L))) : sProp 𝕄 :=
  Transfers.Flight EC (thr d L) (SemLoc.dma (isem s).sem) (default : HIx 1) 131072
    iprop(inP d L s ((islot s).view.writes (Elt F) f [⟨Rect.whole S8x512, payload d L XA b⟩]) ∗ xP d L XA b)
/-- Block `b` on its way out of slot `s`, at `g` there. -/
abbrev FO (s : Fin 2) (b : Fin 128) (f : Buf (Elt F) (oLoc d)) (g : Buf (Elt F) ((oslot s).view.loc (thr d L))) : sProp 𝕄 :=
  Transfers.Flight EC (thr d L) (SemLoc.dma (osem s).sem) (default : HIx 1) 131072
    iprop(oP d L b ((oblk L b).view.writes (Elt F) f [⟨Rect.whole S8x512, ReadAs.same.apply ((oslot s).view.read (Elt F) g)⟩]) ∗ outP d L s g)

abbrev bodyAt (k : Fin k0_t1_loop.trips) (v4 v7 v27 v29 : BitVec 32) :=
  k0_t1_body (F := F) L xV (Memref.isWhole_whole _) oV (Memref.isWhole_whole _) inV (Memref.isWhole_whole _) cc0_scoped1
    outV (Memref.isWhole_whole _) cc0_scoped3 v4 v7 v27 v29 k (carried k.val)

/-- A slot copied out through the vector unit reads what the fetched slot reads. -/
theorem slot_copy_at (s : Fin 2) (o o' : Fin 3 → ℕ) (e : o = slotOff s) (e' : o' = slotOff s) (g : (outV).view.ty.Contents (Elt F))
    (f : (inV).view.ty.Contents (Elt F)) (r : S8x512.Idx → Elt F .f32) (hi ho hc hc') :
    (oslot s).view.read (Elt F)
      (View.write (Elt F) ((outV).access (Rect.unit (s := S2x8x512) o S1x8x512.size ho)) g
        (shapeCast S1x8x512 (shapeCast S8x512 (View.readAt (Elt F) (inV).view (Rect.unit (s := S2x8x512) o' S1x8x512.size hi).toLoadRect
          ((islot s).view.writes (Elt F) f [⟨Rect.whole S8x512, r⟩])) hc) hc') Finset.univ) = r := by
  subst e e'
  rw [shapeCast_shapeCast]
  funext y
  refine Eq.trans ?_ (congrFun (View.read_writes_whole (Val := Elt F) (islot s).view f r) y)
  exact congrFun (View.read_write_univ (v := (outV).access (Rect.unit (s := S2x8x512) (slotOff s) S1x8x512.size (slotOff_inb s))) g _)
    (Shape.reshapeEquiv squeezes_S1x8x512_S8x512.numel_eq y)
theorem slot_copy (k : Fin k0_t1_loop.trips) (g : (outV).view.ty.Contents (Elt F)) (f : (inV).view.ty.Contents (Elt F)) (r : S8x512.Idx → Elt F .f32) (hi ho hc hc') :
    (oslot (Ring.sl 2 k.val)).view.read (Elt F)
      (View.write (Elt F) ((outV).access (Rect.unit (s := S2x8x512) (k0_off11 (w7 k.val)) S1x8x512.size ho)) g
        (shapeCast S1x8x512 (shapeCast S8x512 (View.readAt (Elt F) (inV).view (Rect.unit (s := S2x8x512) (k0_off10 (w6 k.val)) S1x8x512.size hi).toLoadRect
          ((islot (Ring.sl 2 k.val)).view.writes (Elt F) f [⟨Rect.whole S8x512, r⟩])) hc) hc') Finset.univ) = r :=
  slot_copy_at _ _ _ (off11_eq k) (off10_eq k) g f r hi ho hc hc'

/-- What was written whole through a view from a read of `g` is `g` on the view. -/
theorem writes_read_eq {κ : Kind} {sp : Space} {s : Shape} {e : EltTy} (v : View sig κ sp s e) (f g : v.ty.Contents (Elt F)) (i : v.ty.Idx) (hi : i ∈ v.set) :
    v.writes (Elt F) f [⟨Rect.whole s, v.read (Elt F) g⟩] i = g i := by
  obtain ⟨x, -, rfl⟩ := Finset.mem_map.mp hi
  have h := congrFun (View.read_writes_whole (Val := Elt F) v f (v.read (Elt F) g)) x
  rw [View.read_apply, View.read_apply] at h
  exact (cast_inj _).mp h

/-- A block copied whole over any contents holds the table's words. -/
theorem block_landed (b : Fin 128) (f : Buf (Elt F) (oLoc d)) :
    (oP d L b ((oblk L b).view.writes (Elt F) f [⟨Rect.whole S8x512, payload d L XA b⟩]) : sProp 𝕄) = oP d L b (XA : Buf (Elt F) (oLoc d)) :=
  pointsTo_congr fun i hi => writes_read_eq (oblk L b).view f XA i hi

/-- The kernel's word 4: the tile's first row of blocks. -/
abbrev v4L : BitVec 32 :=
  Scalar.muli (Scalar.addi (Scalar.addi 0#32 (Scalar.muli (BitVec.ofNat 32 (L 1).val) 1#32)) (Scalar.muli (BitVec.ofNat 32 (L 0).val) 16#32)) 16#32

set_option maxHeartbeats 4000000 in
theorem trip_mid (k : Fin k0_t1_loop.trips) (h0 : 0 < k.val) (h1 : k.val + 1 < 128) (v4 v7 v27 v29 : BitVec 32) (hv4 : v4 = v4L L)
    (O : CellTallies nD τ sig (HIx 1)) (W : Waits sig (HIx 1)) (fi fi' g gg ff fo) (hgg : (oslot (Ring.sl 2 (k.val + 1))).view.read (Elt F) gg = payload d L XA (Ring.bk 128 (k.val - 1))) :
    iprop(Transfers.MayWaits (thr d L) (default : HIx 1) O
        ∗ FI d L XA (Ring.sl 2 k.val) (Ring.bk 128 k.val) fi ∗ inP d L (Ring.sl 2 (k.val + 1)) fi' ∗ icell d L (Ring.sl 2 (k.val + 1))
        ∗ xP d L XA (Ring.bk 128 (k.val + 1))
        ∗ FO d L (Ring.sl 2 (k.val + 1)) (Ring.bk 128 (k.val - 1)) ff gg ∗ outP d L (Ring.sl 2 k.val) g ∗ ocell d L (Ring.sl 2 k.val)
        ∗ oP d L (Ring.bk 128 k.val) fo ∗ owes (thr d L) O W)
      ⊢ wp frame (wpE (defs₀ (F := F)) 𝒱₀ (thr d L) none) Set.univ (bodyAt (F := F) L k v4 v7 v27 v29) fun acc =>
        iprop(⌜acc = carried (k.val + 1)⌝ ∗ (∃ f, FI d L XA (Ring.sl 2 (k.val + 1)) (Ring.bk 128 (k.val + 1)) f)
          ∗ (∃ f, inP d L (Ring.sl 2 k.val) f) ∗ icell d L (Ring.sl 2 k.val) ∗ xP d L XA (Ring.bk 128 k.val)
          ∗ (∃ f g, ⌜(oslot (Ring.sl 2 k.val)).view.read (Elt F) g = payload d L XA (Ring.bk 128 k.val)⌝ ∗ FO d L (Ring.sl 2 k.val) (Ring.bk 128 k.val) f g)
          ∗ (∃ g, outP d L (Ring.sl 2 (k.val + 1)) g) ∗ ocell d L (Ring.sl 2 (k.val + 1)) ∗ oP d L (Ring.bk 128 (k.val - 1)) (XA : Buf (Elt F) (oLoc d))
          ∗ ∃ W', ⌜∀ p ∈ W', p ∈ W ∨ p.2 = none⌝ ∗ owes (thr d L) O W') := by
  have hc1 := cond1_pos L k h1
  have hc2 := cond2_pos L k
  have hc5 := cond5_pos L k
  have hc7 := cond7_pos L k h0
  have hk1 := chk1_ok L k
  have hk2 := chk2_ok k
  have hk3 := chk3_ok k
  iintro ⟨#Hmw, HFI, Hin, Hic, Hx, HFO, Hout, Hoc, Ho, HO⟩
  dsimp only [bodyAt, carried]
  sl_unfold [k0_t1_body]
  sl_exec
  have e : ∀ (M : Buf (Elt F) (oLoc d)) , (oP d L (Ring.bk 128 (k.val - 1)) ((oblk L (Ring.bk 128 (k.val - 1))).view.writes (Elt F) M
      [⟨Rect.whole S8x512, ReadAs.same.apply (View.read (Elt F) (oslot (Ring.sl 2 (k.val + 1))).view gg)⟩]) : sProp 𝕄) = oP d L (Ring.bk 128 (k.val - 1)) (XA : Buf (Elt F) (oLoc d)) := fun M => by
    rw [show ReadAs.same.apply (View.read (Elt F) (oslot (Ring.sl 2 (k.val + 1))).view gg) = payload d L XA (Ring.bk 128 (k.val - 1)) from hgg, block_landed]
  rw [wp_ret]; imodintro
  isplitr
  · ipureintro
    subst hv4
    clear * -
    revert k L
    decide +kernel
  isplitl [Hic]; · iexists _; iexact Hic
  isplitl [HFI_dst]; · iexists _; iexact HFI_dst
  isplitl [HFI]; · iexact HFI
  isplitl [HFI_src]; · iexact HFI_src
  isplitl [Hoc]
  · iexists _; iexists _
    isplitr; swap; · iexact Hoc
    ipureintro; exact slot_copy k g _ (payload d L XA (Ring.bk 128 k.val)) _ _ _ _
  isplitl [HFO_src]; · iexists _; iexact HFO_src
  isplitl [HFO]; · iexact HFO
  isplitl [HFO_dst]; · iapply (Entails.of_eq (e _)) $$ HFO_dst
  iexists _
  isplitr; swap
  · iexact HO
  · ipureintro; intro p hp
    simp only [Finset.mem_insert] at hp
    rcases hp with rfl | rfl | hp
    · exact Or.inr rfl
    · exact Or.inr rfl
    · exact Or.inl hp

set_option maxHeartbeats 4000000 in
theorem trip_first (k : Fin k0_t1_loop.trips) (h0 : ¬ 0 < k.val) (h1 : k.val + 1 < 128) (v4 v7 v27 v29 : BitVec 32) (hv4 : v4 = v4L L)
    (O : CellTallies nD τ sig (HIx 1)) (W : Waits sig (HIx 1)) (fi fi' g fo) :
    iprop(Transfers.MayWaits (thr d L) (default : HIx 1) O
        ∗ FI d L XA (Ring.sl 2 k.val) (Ring.bk 128 k.val) fi ∗ inP d L (Ring.sl 2 (k.val + 1)) fi' ∗ icell d L (Ring.sl 2 (k.val + 1))
        ∗ xP d L XA (Ring.bk 128 (k.val + 1))
        ∗ outP d L (Ring.sl 2 k.val) g ∗ ocell d L (Ring.sl 2 k.val)
        ∗ oP d L (Ring.bk 128 k.val) fo ∗ owes (thr d L) O W)
      ⊢ wp frame (wpE (defs₀ (F := F)) 𝒱₀ (thr d L) none) Set.univ (bodyAt (F := F) L k v4 v7 v27 v29) fun acc =>
        iprop(⌜acc = carried (k.val + 1)⌝ ∗ (∃ f, FI d L XA (Ring.sl 2 (k.val + 1)) (Ring.bk 128 (k.val + 1)) f)
          ∗ (∃ f, inP d L (Ring.sl 2 k.val) f) ∗ icell d L (Ring.sl 2 k.val) ∗ xP d L XA (Ring.bk 128 k.val)
          ∗ (∃ f g, ⌜(oslot (Ring.sl 2 k.val)).view.read (Elt F) g = payload d L XA (Ring.bk 128 k.val)⌝ ∗ FO d L (Ring.sl 2 k.val) (Ring.bk 128 k.val) f g)
          ∗ ∃ W', ⌜∀ p ∈ W', p ∈ W ∨ p.2 = none⌝ ∗ owes (thr d L) O W') := by
  have hc1 := cond1_pos L k h1
  have hc2 := cond2_pos L k
  have hc5 := cond5_pos L k
  have hc7 := cond7_neg L k h0
  have hk1 := chk1_ok L k
  have hk2 := chk2_ok k
  have hk3 := chk3_ok k
  iintro ⟨#Hmw, HFI, Hin, Hic, Hx, Hout, Hoc, Ho, HO⟩
  dsimp only [bodyAt, carried]
  sl_unfold [k0_t1_body]
  sl_exec
  rw [wp_ret]; imodintro
  isplitr
  · ipureintro
    subst hv4
    clear * -
    revert k L
    decide +kernel
  isplitl [Hic]; · iexists _; iexact Hic
  isplitl [HFI_dst]; · iexists _; iexact HFI_dst
  isplitl [HFI]; · iexact HFI
  isplitl [HFI_src]; · iexact HFI_src
  isplitl [Hoc]
  · iexists _; iexists _
    isplitr; swap; · iexact Hoc
    ipureintro; exact slot_copy k g _ (payload d L XA (Ring.bk 128 k.val)) _ _ _ _
  iexists _
  isplitr; swap
  · iexact HO
  · ipureintro; intro p hp
    simp only [Finset.mem_insert] at hp
    rcases hp with rfl | hp
    · exact Or.inr rfl
    · exact Or.inl hp

set_option maxHeartbeats 4000000 in
theorem trip_last (k : Fin k0_t1_loop.trips) (h0 : 0 < k.val) (h1 : ¬ k.val + 1 < 128) (v4 v7 v27 v29 : BitVec 32) (hv4 : v4 = v4L L)
    (O : CellTallies nD τ sig (HIx 1)) (W : Waits sig (HIx 1)) (fi g gg ff fo) (hgg : (oslot (Ring.sl 2 (k.val + 1))).view.read (Elt F) gg = payload d L XA (Ring.bk 128 (k.val - 1))) :
    iprop(Transfers.MayWaits (thr d L) (default : HIx 1) O
        ∗ FI d L XA (Ring.sl 2 k.val) (Ring.bk 128 k.val) fi
        ∗ FO d L (Ring.sl 2 (k.val + 1)) (Ring.bk 128 (k.val - 1)) ff gg ∗ outP d L (Ring.sl 2 k.val) g ∗ ocell d L (Ring.sl 2 k.val)
        ∗ oP d L (Ring.bk 128 k.val) fo ∗ owes (thr d L) O W)
      ⊢ wp frame (wpE (defs₀ (F := F)) 𝒱₀ (thr d L) none) Set.univ (bodyAt (F := F) L k v4 v7 v27 v29) fun acc =>
        iprop(⌜acc = carried (k.val + 1)⌝
          ∗ (∃ f, inP d L (Ring.sl 2 k.val) f) ∗ icell d L (Ring.sl 2 k.val) ∗ xP d L XA (Ring.bk 128 k.val)
          ∗ (∃ f g, ⌜(oslot (Ring.sl 2 k.val)).view.read (Elt F) g = payload d L XA (Ring.bk 128 k.val)⌝ ∗ FO d L (Ring.sl 2 k.val) (Ring.bk 128 k.val) f g)
          ∗ (∃ g, outP d L (Ring.sl 2 (k.val + 1)) g) ∗ ocell d L (Ring.sl 2 (k.val + 1)) ∗ oP d L (Ring.bk 128 (k.val - 1)) (XA : Buf (Elt F) (oLoc d))
          ∗ ∃ W', ⌜∀ p ∈ W', p ∈ W ∨ p.2 = none⌝ ∗ owes (thr d L) O W') := by
  have hc1 := cond1_neg L k h1
  have hc2 := cond2_pos L k
  have hc5 := cond5_pos L k
  have hc7 := cond7_pos L k h0
  have hk1 := chk1_ok L k
  have hk2 := chk2_ok k
  have hk3 := chk3_ok k
  iintro ⟨#Hmw, HFI, HFO, Hout, Hoc, Ho, HO⟩
  dsimp only [bodyAt, carried]
  sl_unfold [k0_t1_body]
  sl_exec
  have e : ∀ (M : Buf (Elt F) (oLoc d)) , (oP d L (Ring.bk 128 (k.val - 1)) ((oblk L (Ring.bk 128 (k.val - 1))).view.writes (Elt F) M
      [⟨Rect.whole S8x512, ReadAs.same.apply (View.read (Elt F) (oslot (Ring.sl 2 (k.val + 1))).view gg)⟩]) : sProp 𝕄) = oP d L (Ring.bk 128 (k.val - 1)) (XA : Buf (Elt F) (oLoc d)) := fun M => by
    rw [show ReadAs.same.apply (View.read (Elt F) (oslot (Ring.sl 2 (k.val + 1))).view gg) = payload d L XA (Ring.bk 128 (k.val - 1)) from hgg, block_landed]
  rw [wp_ret]; imodintro
  isplitr
  · ipureintro
    subst hv4
    clear * -
    revert k L
    decide +kernel
  isplitl [HFI_dst]; · iexists _; iexact HFI_dst
  isplitl [HFI]; · iexact HFI
  isplitl [HFI_src]; · iexact HFI_src
  isplitl [Hoc]
  · iexists _; iexists _
    isplitr; swap; · iexact Hoc
    ipureintro; exact slot_copy k g _ (payload d L XA (Ring.bk 128 k.val)) _ _ _ _
  isplitl [HFO_src]; · iexists _; iexact HFO_src
  isplitl [HFO]; · iexact HFO
  isplitl [HFO_dst]; · iapply (Entails.of_eq (e _)) $$ HFO_dst
  iexists _
  isplitr; swap
  · iexact HO
  · ipureintro; intro p hp
    simp only [Finset.mem_insert] at hp
    rcases hp with rfl | rfl | hp
    · exact Or.inr rfl
    · exact Or.inr rfl
    · exact Or.inl hp

end Pieces

end Cert.Proof.Tile
-- ==== Proof.Loop.lean ====
/-
  One tile of the SparseCore kernel: its loop by an invariant, and its whole run.
-/
module

public import proofs.«01_k».proof.Proof.Tile

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_arg1_scv : Memref Cert.KernelIdeal.sig Kind.scVector Space.hbm Cert.KernelIdeal.S4096x4096 EltTy.f32)
local notation "oV" => (Memref.whole Cert.KernelIdeal.main_v2_scv : Memref Cert.KernelIdeal.sig Kind.scVector Space.hbm Cert.KernelIdeal.S4096x4096 EltTy.f32)
local notation "inV" => (Memref.whole Cert.KernelIdeal.cc0_scoped0 : Memref Cert.KernelIdeal.sig Kind.scVector Space.vmem Cert.KernelIdeal.S2x8x512 EltTy.f32)
local notation "outV" => (Memref.whole Cert.KernelIdeal.cc0_scoped2 : Memref Cert.KernelIdeal.sig Kind.scVector Space.vmem Cert.KernelIdeal.S2x8x512 EltTy.f32)

variable (d : Dev nD) (L : grid0.Coords) (XA : Buf (Elt F) (xLoc d)) (OB : Buf (Elt F) (oLoc d))

/-- Slot `s` of a staging buffer free: at some contents, its semaphore at zero. -/
abbrev iFree (s : Fin 2) : sProp 𝕄 := iprop((∃ f, inP (F := F) d L s f) ∗ icell d L s)
abbrev oFree (s : Fin 2) : sProp 𝕄 := iprop((∃ f, outP (F := F) d L s f) ∗ ocell d L s)
/-- Block `b` on its way in to slot `s`; out of slot `s`. -/
abbrev iFly (s : Fin 2) (b : Fin 128) : sProp 𝕄 := iprop(∃ f, FI d L XA s b f)
abbrev oFly (s : Fin 2) (b : Fin 128) : sProp 𝕄 :=
  iprop(∃ f g, ⌜(oslot s).view.read (Elt F) g = payload d L XA b⌝ ∗ FO d L s b f g)

/-- The incoming side before trip `k`: block `k` in flight while there is one, the other slot free. -/
def INs (k : ℕ) : sProp 𝕄 :=
  if k < 128 then iprop(iFly d L XA (Ring.sl 2 k) (Ring.bk 128 k) ∗ iFree d L (Ring.sl 2 (k + 1)))
  else iprop(iFree d L (Ring.sl 2 k) ∗ iFree d L (Ring.sl 2 (k + 1)))
/-- The outgoing side before trip `k`: block `k - 1` in flight once there is one, the other slot free. -/
def OUTs (k : ℕ) : sProp 𝕄 :=
  if 0 < k then iprop(oFly d L XA (Ring.sl 2 (k + 1)) (Ring.bk 128 (k - 1)) ∗ oFree d L (Ring.sl 2 k))
  else iprop(oFree d L (Ring.sl 2 (k + 1)) ∗ oFree d L (Ring.sl 2 k))

theorem INs_lt (k : ℕ) (h : k < 128) : INs d L XA k = iprop(iFly d L XA (Ring.sl 2 k) (Ring.bk 128 k) ∗ iFree d L (Ring.sl 2 (k + 1))) := if_pos h
theorem INs_ge (k : ℕ) (h : ¬ k < 128) : INs d L XA k = iprop(iFree d L (Ring.sl 2 k) ∗ iFree d L (Ring.sl 2 (k + 1))) := if_neg h
theorem OUTs_pos (k : ℕ) (h : 0 < k) : OUTs d L XA k = iprop(oFly d L XA (Ring.sl 2 (k + 1)) (Ring.bk 128 (k - 1)) ∗ oFree d L (Ring.sl 2 k)) := if_pos h
theorem OUTs_zero (k : ℕ) (h : ¬ 0 < k) : OUTs d L XA k = iprop(oFree d L (Ring.sl 2 (k + 1)) ∗ oFree d L (Ring.sl 2 k)) := if_neg h
theorem sl2 (k : ℕ) : Ring.sl 2 (k + 1 + 1) = Ring.sl 2 k := Ring.sl_add 2 k
theorem OUTs_succ (k : ℕ) : OUTs d L XA (k + 1) = iprop(oFly d L XA (Ring.sl 2 k) (Ring.bk 128 k) ∗ oFree d L (Ring.sl 2 (k + 1))) := by
  rw [OUTs_pos d L XA (k + 1) (by omega), sl2, Nat.add_sub_cancel]

/-- Before trip `k`: the carried words, the incoming and outgoing sides, every block of the table but the one in flight,
    the result's blocks landed and those to come, and what the tile owes. -/
def Inv (O : CellTallies nD τ sig (HIx 1)) (W : Waits sig (HIx 1)) (k : ℕ) (acc : BitVec 32 × BitVec 32 × BitVec 32 × BitVec 32 × BitVec 32 × BitVec 32) : sProp 𝕄 :=
  iprop(⌜acc = carried k⌝ ∗ Transfers.MayWaits (thr d L) (default : HIx 1) O ∗ INs d L XA k ∗ OUTs d L XA k
    ∗ bigSep (Ring.homeSet 1 k) (xP d L XA)
    ∗ bigSep (Ring.rangeSet 128 0 (k - 1)) (fun b => oP d L b (XA : Buf (Elt F) (oLoc d)))
    ∗ bigSep (Ring.rangeSet 128 k 128) (fun b => oP d L b OB)
    ∗ ∃ W', ⌜∀ p ∈ W', p ∈ W ∨ p.2 = none⌝ ∗ owes (thr d L) O W')

theorem bk_eq (k : ℕ) (h : k < 128) : (⟨k, h⟩ : Fin 128) = Ring.bk 128 k := Fin.ext (Ring.bk_val h).symm

theorem xs_out (k : ℕ) (h : k + 1 < 128) :
    (bigSep (Ring.homeSet 1 k) (xP d L XA) : sProp 𝕄)
      = iprop(xP d L XA (Ring.bk 128 (k + 1)) ∗ bigSep ((Ring.homeSet 1 k).erase (Ring.bk 128 (k + 1))) (xP d L XA)) := by
  conv_lhs => rw [Ring.homeSet_out 1 k h]
  exact bigSep_insert (Ring.bkL_not_mem_erase 1 k)
theorem xs_in (k : ℕ) (h : k + 1 < 128) :
    (bigSep (Ring.homeSet 1 (k + 1)) (xP d L XA) : sProp 𝕄)
      = iprop(xP d L XA (Ring.bk 128 k) ∗ bigSep ((Ring.homeSet 1 k).erase (Ring.bk 128 (k + 1))) (xP d L XA)) := by
  rw [Ring.homeSet_succ 1 k h]
  exact bigSep_insert (Ring.bk_not_mem_erase 1 k (by omega) (by decide))
theorem xs_in_last (k : ℕ) (hk : k < 128) (h : ¬ k + 1 < 128) :
    (bigSep (Ring.homeSet 1 (k + 1)) (xP d L XA) : sProp 𝕄) = iprop(xP d L XA (Ring.bk 128 k) ∗ bigSep (Ring.homeSet 1 k) (xP d L XA)) := by
  rw [Ring.homeSet_succ_tail 1 k (by omega) hk]
  exact bigSep_insert (Ring.bk_not_mem_homeSet 1 k hk (by decide))
theorem done_in (k : ℕ) (h0 : 0 < k) (h : k ≤ 128) (Φ : Fin 128 → sProp 𝕄) :
    bigSep (Ring.rangeSet 128 0 k) Φ = iprop(Φ (Ring.bk 128 (k - 1)) ∗ bigSep (Ring.rangeSet 128 0 (k - 1)) Φ) := by
  rw [Ring.bigSep_rangeSet_last h0 h, bk_eq]
theorem todo_out (k : ℕ) (h : k < 128) (Φ : Fin 128 → sProp 𝕄) :
    bigSep (Ring.rangeSet 128 k 128) Φ = iprop(Φ (Ring.bk 128 k) ∗ bigSep (Ring.rangeSet 128 (k + 1) 128) Φ) := by
  rw [Ring.bigSep_rangeSet_head h h, bk_eq]

theorem owes_weaken (O : CellTallies nD τ sig (HIx 1)) (W W' : Waits sig (HIx 1)) (h : ∀ p ∈ W', p ∈ W ∨ p.2 = none) :
    (iprop(∃ W'', ⌜∀ p ∈ W'', p ∈ W' ∨ p.2 = none⌝ ∗ owes (thr d L) O W'') : sProp 𝕄) ⊢ iprop(∃ W'', ⌜∀ p ∈ W'', p ∈ W ∨ p.2 = none⌝ ∗ owes (thr d L) O W'') := by
  iintro ⟨%W'', %h', HO⟩
  iexists W''
  isplitr
  · ipureintro; intro p hp
    rcases h' p hp with h'' | h''
    · exact h p h''
    · exact Or.inr h''
  · iexact HO

/-- One trip keeps the invariant. -/
theorem step (O : CellTallies nD τ sig (HIx 1)) (W : Waits sig (HIx 1)) (k : Fin k0_t1_loop.trips) (v4 v7 v27 v29 : BitVec 32) (hv4 : v4 = v4L L)
    (a : BitVec 32 × BitVec 32 × BitVec 32 × BitVec 32 × BitVec 32 × BitVec 32) :
    Inv d L XA OB O W k.val a
      ⊢ wp frame (wpE (defs₀ (F := F)) 𝒱₀ (thr d L) none) Set.univ
          (k0_t1_body (F := F) L xV (Memref.isWhole_whole _) oV (Memref.isWhole_whole _) inV (Memref.isWhole_whole _) cc0_scoped1
            outV (Memref.isWhole_whole _) cc0_scoped3 v4 v7 v27 v29 k a) fun acc => Inv d L XA OB O W (k.val + 1) acc := by
  have hk : k.val < 128 := trips_eq ▸ k.isLt
  unfold Inv
  rw [todo_out k.val hk, INs_lt _ _ _ _ hk, OUTs_succ, Nat.add_sub_cancel]
  by_cases h0 : 0 < k.val
  · rw [OUTs_pos _ _ _ _ h0, done_in k.val h0 (by omega)]
    by_cases h1 : k.val + 1 < 128
    · rw [xs_out d L XA k.val h1, xs_in d L XA k.val h1, INs_lt _ _ _ _ h1, sl2]
      iintro ⟨%ha, #Hmw, ⟨⟨%fi, HFI⟩, ⟨%fi', Hin⟩, Hic⟩, ⟨⟨%ff, %gg, %hgg, HFO⟩, ⟨%g, Hout⟩, Hoc⟩, ⟨Hx, Hxs⟩, Hdone, ⟨Ho, Htodo⟩, %W', %hW', HO⟩
      subst ha
      iapply (wp_wand_r Idealize.ShloMosaic.frame (wpE (defs₀ (F := F)) 𝒱₀ (thr d L) none) Set.univ)
      isplitl [HFI Hin Hic Hx HFO Hout Hoc Ho HO]
      · iapply (trip_mid d L XA k h0 h1 v4 v7 v27 v29 hv4 O W' fi fi' g gg ff OB hgg)
        isplitr; · iexact Hmw
        isplitl [HFI]; · iexact HFI
        isplitl [Hin]; · iexact Hin
        isplitl [Hic]; · iexact Hic
        isplitl [Hx]; · iexact Hx
        isplitl [HFO]; · iexact HFO
        isplitl [Hout]; · iexact Hout
        isplitl [Hoc]; · iexact Hoc
        isplitl [Ho]; · iexact Ho
        iexact HO
      · iintro %acc ⟨%hacc, HFI, Hin, Hic, Hx, HFO, Hout, Hoc, Hob, HO⟩
        isplitr; · ipureintro; exact hacc
        isplitr; · iexact Hmw
        isplitl [HFI Hin Hic]
        · isplitl [HFI]; · iexact HFI
          isplitl [Hin]; · iexact Hin
          iexact Hic
        isplitl [HFO Hout Hoc]
        · isplitl [HFO]; · iexact HFO
          isplitl [Hout]; · iexact Hout
          iexact Hoc
        isplitl [Hx Hxs]
        · isplitl [Hx]; · iexact Hx
          iexact Hxs
        isplitl [Hob Hdone]
        · isplitl [Hob]; · iexact Hob
          iexact Hdone
        isplitl [Htodo]; · iexact Htodo
        iapply (owes_weaken d L O W W' hW'); iexact HO
    · rw [xs_in_last d L XA k.val hk h1, INs_ge _ _ _ _ h1, sl2]
      iintro ⟨%ha, #Hmw, ⟨⟨%fi, HFI⟩, Hin, Hic⟩, ⟨⟨%ff, %gg, %hgg, HFO⟩, ⟨%g, Hout⟩, Hoc⟩, Hxs, Hdone, ⟨Ho, Htodo⟩, %W', %hW', HO⟩
      subst ha
      iapply (wp_wand_r Idealize.ShloMosaic.frame (wpE (defs₀ (F := F)) 𝒱₀ (thr d L) none) Set.univ)
      isplitl [HFI HFO Hout Hoc Ho HO]
      · iapply (trip_last d L XA k h0 h1 v4 v7 v27 v29 hv4 O W' fi g gg ff OB hgg)
        isplitr; · iexact Hmw
        isplitl [HFI]; · iexact HFI
        isplitl [HFO]; · iexact HFO
        isplitl [Hout]; · iexact Hout
        isplitl [Hoc]; · iexact Hoc
        isplitl [Ho]; · iexact Ho
        iexact HO
      · iintro %acc ⟨%hacc, Hin', Hic', Hx, HFO, Hout, Hoc, Hob, HO⟩
        isplitr; · ipureintro; exact hacc
        isplitr; · iexact Hmw
        isplitl [Hin Hic Hin' Hic']
        · isplitl [Hin Hic]
          · isplitl [Hin]; · iexact Hin
            iexact Hic
          · isplitl [Hin']; · iexact Hin'
            iexact Hic'
        isplitl [HFO Hout Hoc]
        · isplitl [HFO]; · iexact HFO
          isplitl [Hout]; · iexact Hout
          iexact Hoc
        isplitl [Hx Hxs]
        · isplitl [Hx]; · iexact Hx
          iexact Hxs
        isplitl [Hob Hdone]
        · isplitl [Hob]; · iexact Hob
          iexact Hdone
        isplitl [Htodo]; · iexact Htodo
        iapply (owes_weaken d L O W W' hW'); iexact HO
  · have h1 : k.val + 1 < 128 := by omega
    rw [OUTs_zero _ _ _ _ h0, xs_out d L XA k.val h1, xs_in d L XA k.val h1, INs_lt _ _ _ _ h1, sl2,
      show k.val - 1 = 0 by omega, show Ring.rangeSet 128 0 k.val = Ring.rangeSet 128 0 0 by rw [show k.val = 0 by omega]]
    iintro ⟨%ha, #Hmw, ⟨⟨%fi, HFI⟩, ⟨%fi', Hin⟩, Hic⟩, ⟨Hfree, ⟨%g, Hout⟩, Hoc⟩, ⟨Hx, Hxs⟩, Hdone, ⟨Ho, Htodo⟩, %W', %hW', HO⟩
    subst ha
    iapply (wp_wand_r Idealize.ShloMosaic.frame (wpE (defs₀ (F := F)) 𝒱₀ (thr d L) none) Set.univ)
    isplitl [HFI Hin Hic Hx Hout Hoc Ho HO]
    · iapply (trip_first d L XA k h0 h1 v4 v7 v27 v29 hv4 O W' fi fi' g OB)
      isplitr; · iexact Hmw
      isplitl [HFI]; · iexact HFI
      isplitl [Hin]; · iexact Hin
      isplitl [Hic]; · iexact Hic
      isplitl [Hx]; · iexact Hx
      isplitl [Hout]; · iexact Hout
      isplitl [Hoc]; · iexact Hoc
      isplitl [Ho]; · iexact Ho
      iexact HO
    · iintro %acc ⟨%hacc, HFI, Hin, Hic, Hx, HFO, HO⟩
      isplitr; · ipureintro; exact hacc
      isplitr; · iexact Hmw
      isplitl [HFI Hin Hic]
      · isplitl [HFI]; · iexact HFI
        isplitl [Hin]; · iexact Hin
        iexact Hic
      isplitl [HFO Hfree]
      · isplitl [HFO]; · iexact HFO
        iexact Hfree
      isplitl [Hx Hxs]
      · isplitl [Hx]; · iexact Hx
        iexact Hxs
      isplitl [Hdone]; · iexact Hdone
      isplitl [Htodo]; · iexact Htodo
      iapply (owes_weaken d L O W W' hW'); iexact HO

/-- The invariant after the last trip. -/
theorem Inv_end (O : CellTallies nD τ sig (HIx 1)) (W : Waits sig (HIx 1)) (k : ℕ) (hk : k = 128) (a : BitVec 32 × BitVec 32 × BitVec 32 × BitVec 32 × BitVec 32 × BitVec 32) :
    Inv d L XA OB O W k a = iprop(⌜a = carried 128⌝ ∗ Transfers.MayWaits (thr d L) (default : HIx 1) O ∗ (iFree d L 0 ∗ iFree d L 1)
      ∗ (oFly d L XA 1 (Ring.bk 128 127) ∗ oFree d L 0) ∗ bigSep Finset.univ (xP d L XA)
      ∗ bigSep (Ring.rangeSet 128 0 127) (fun b => oP d L b (XA : Buf (Elt F) (oLoc d))) ∗ emp
      ∗ ∃ W', ⌜∀ p ∈ W', p ∈ W ∨ p.2 = none⌝ ∗ owes (thr d L) O W') := by
  subst hk
  unfold Inv
  rw [INs_ge d L XA 128 (by decide), OUTs_pos d L XA 128 (by decide), Ring.bigSep_rangeSet_empty (NB := 128) (lo := 128) (hi := 128) (by decide),
    show Ring.homeSet 1 128 = (Finset.univ : Finset (Fin 128)) from Ring.homeSet_last 1 128 le_rfl, show Ring.sl 2 128 = (0 : Fin 2) by decide, show Ring.sl 2 (128 + 1) = (1 : Fin 2) by decide]

/-- The kernel on one tile: the table's blocks kept, the result's blocks at the table's contents. -/
theorem tile_run (O : CellTallies nD τ sig (HIx 1)) (W : Waits sig (HIx 1)) :
    iprop(Transfers.MayWaits (thr d L) (default : HIx 1) O
        ∗ bigSep Finset.univ (xP d L XA) ∗ bigSep Finset.univ (fun b => oP d L b OB)
        ∗ iFree (F := F) d L 0 ∗ iFree (F := F) d L 1 ∗ oFree (F := F) d L 0 ∗ oFree (F := F) d L 1 ∗ owes (thr d L) O W)
      ⊢ wp frame (wpE (defs₀ (F := F)) 𝒱₀ (thr d L) none) Set.univ
          (cc0_k L xV (Memref.isWhole_whole _) oV (Memref.isWhole_whole _) inV (Memref.isWhole_whole _) cc0_scoped1
            outV (Memref.isWhole_whole _) cc0_scoped3)
          fun _ => iprop(bigSep Finset.univ (xP d L XA) ∗ bigSep Finset.univ (fun b => oP d L b (XA : Buf (Elt F) (oLoc d)))
            ∗ iFree (F := F) d L 0 ∗ iFree (F := F) d L 1 ∗ oFree (F := F) d L 0 ∗ oFree (F := F) d L 1
            ∗ ∃ W', ⌜∀ p ∈ W', p ∈ W ∨ p.2 = none⌝ ∗ owes (thr d L) O W') := by
  have e0 : (bigSep Finset.univ (xP d L XA) : sProp 𝕄) = iprop(xP d L XA 0 ∗ bigSep (Ring.homeSet 1 0) (xP d L XA)) := by
    rw [show (Finset.univ : Finset (Fin 128)) = insert 0 (Ring.homeSet 1 0) by decide]
    exact bigSep_insert (by decide)
  have hk5 := chk5_ok L
  have hk4 := chk4_ok
  rw [e0]
  iintro ⟨#Hmw, ⟨Hx, Hxs⟩, Ho, ⟨⟨%fi0, Hin⟩, Hic⟩, Hi1, Ho0, Ho1, HO⟩
  sl_unfold [cc0_k]
  sl_exec
  sl_for (Inv d L XA OB O W) $$ [Hic Hi1 Ho0 Ho1 Hxs Ho HO]
  case region =>
    intro k acc
    exact step d L XA OB O W k (v4L L) 0#32 0#32 0#32 rfl acc
  · unfold Inv
    irw [INs_lt d L XA 0 (by decide), OUTs_zero d L XA 0 (by decide), Ring.bigSep_rangeSet_empty (NB := 128) (lo := 0) (hi := 0 - 1) (by decide),
      show Ring.rangeSet 128 0 128 = Finset.univ from Ring.rangeSet_univ]
    isplitr; · ipureintro; decide
    isplitr; · iexact Hmw
    isplitl [Hic Hi1]
    · isplitl [Hic]; · iexists _; iexact Hic
      iexact Hi1
    isplitl [Ho0 Ho1]
    · isplitl [Ho1]; · iexact Ho1
      iexact Ho0
    isplitl [Hxs]; · iexact Hxs
    isplitr; · iempintro
    isplitl [Ho]; · iexact Ho
    iexists W; isplitr
    · ipureintro; exact fun p hp => .inl hp
    · iexact HO
  iintro %acc HI
  ihave HI' := (Entails.of_eq (Inv_end d L XA OB O W _ trips_eq acc)) $$ HI
  icases HI' with ⟨%ha, -, ⟨Hi0, Hi1⟩, ⟨⟨%ff, %gg, %hgg, HFO⟩, Ho0⟩, Hxs, Hdone, -, %W', %hW', HO⟩
  subst ha
  sl_exec
  have e : ∀ (M : Buf (Elt F) (oLoc d)) , (oP d L (Ring.bk 128 127) ((oblk L (Ring.bk 128 127)).view.writes (Elt F) M
      [⟨Rect.whole S8x512, ReadAs.same.apply (View.read (Elt F) (oslot 1).view gg)⟩]) : sProp 𝕄) = oP d L (Ring.bk 128 127) (XA : Buf (Elt F) (oLoc d)) := fun M => by
    rw [show ReadAs.same.apply (View.read (Elt F) (oslot 1).view gg) = payload d L XA (Ring.bk 128 127) from hgg, block_landed]
  have e1 : (bigSep Finset.univ (fun b => oP d L b (XA : Buf (Elt F) (oLoc d))) : sProp 𝕄)
      = iprop(oP d L (Ring.bk 128 127) (XA : Buf (Elt F) (oLoc d)) ∗ bigSep (Ring.rangeSet 128 0 127) (fun b => oP d L b (XA : Buf (Elt F) (oLoc d)))) := by
    rw [show (Finset.univ : Finset (Fin 128)) = Ring.rangeSet 128 0 128 from Ring.rangeSet_univ.symm]
    exact done_in 128 (by decide) le_rfl _
  rw [wp_ret]; imodintro
  isplitl [Hxs]; · iapply (Entails.of_eq e0) $$ Hxs
  isplitl [HFO_dst Hdone]
  · ihave Hb := (Entails.of_eq (e _)) $$ HFO_dst
    iapply (Entails.of_eq e1.symm)
    isplitl [Hb]; · iexact Hb
    iexact Hdone
  isplitl [Hi0]; · iexact Hi0
  isplitl [Hi1]; · iexact Hi1
  isplitl [Ho0]; · iexact Ho0
  isplitl [HFO_src HFO]
  · isplitl [HFO_src]; · iexists _; iexact HFO_src
    iexact HFO
  iexists _
  isplitr; swap
  · iexact HO
  · ipureintro; intro p hp
    rcases Finset.mem_insert.mp hp with rfl | hp
    · exact Or.inr rfl
    · exact hW' p hp

end Cert.Proof.Tile
-- ==== Proof.Launch.lean ====
/-
  The SparseCore call's side of the launch: what each tile is handed and hands back, the two 4096x4096 buffers cut into the tiles' blocks and
  put together again, the staging buffers cut into slots, and the tile's obligation.
-/
module

public import proofs.«01_k».proof.Proof.Loop

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay VecSplit tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_arg1_scv : Memref Cert.KernelIdeal.sig Kind.scVector Space.hbm Cert.KernelIdeal.S4096x4096 EltTy.f32)
local notation "oV" => (Memref.whole Cert.KernelIdeal.main_v2_scv : Memref Cert.KernelIdeal.sig Kind.scVector Space.hbm Cert.KernelIdeal.S4096x4096 EltTy.f32)
local notation "inV" => (Memref.whole Cert.KernelIdeal.cc0_scoped0 : Memref Cert.KernelIdeal.sig Kind.scVector Space.vmem Cert.KernelIdeal.S2x8x512 EltTy.f32)
local notation "outV" => (Memref.whole Cert.KernelIdeal.cc0_scoped2 : Memref Cert.KernelIdeal.sig Kind.scVector Space.vmem Cert.KernelIdeal.S2x8x512 EltTy.f32)

/-- The tile of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-! ## The tiles' blocks are the whole array -/

/-- Block `p.2` of tile `p.1`. -/
abbrev brect (p : (Fin 2 × Fin 16) × Fin 128) : Rect S4096x4096 :=
  Rect.unit (s := S4096x4096) (blkOff (coordsV p.1.1 p.1.2) p.2) S8x512.size (blkOff_inb _ p.2)

theorem mem_brect (p : (Fin 2 × Fin 16) × Fin 128) (x : S4096x4096.Idx) :
    x ∈ (brect p).set ↔ (128 * p.1.2.val + 2048 * p.1.1.val + 8 * (p.2.val / 8) ≤ (x 0).val ∧ (x 0).val < 128 * p.1.2.val + 2048 * p.1.1.val + 8 * (p.2.val / 8) + 8)
      ∧ (512 * (p.2.val % 8) ≤ (x 1).val ∧ (x 1).val < 512 * (p.2.val % 8) + 512) := by
  rw [Rect.mem_set_unit]
  constructor
  · intro h; exact ⟨h 0, h 1⟩
  · rintro ⟨h0, h1⟩ a
    fin_cases a
    · exact h0
    · exact h1

theorem brect_disjoint : ∀ p ∈ (Finset.univ : Finset ((Fin 2 × Fin 16) × Fin 128)), ∀ p' ∈ (Finset.univ : Finset ((Fin 2 × Fin 16) × Fin 128)),
    p ≠ p' → Disjoint (brect p).set (brect p').set := by
  rintro p - p' - h
  rw [Finset.disjoint_left]
  intro x hx hx'
  rw [mem_brect] at hx hx'
  apply h
  obtain ⟨⟨c, i⟩, b⟩ := p
  obtain ⟨⟨c', i'⟩, b'⟩ := p'
  simp only at hx hx'
  have := c.isLt; have := c'.isLt; have := i.isLt; have := i'.isLt; have := b.isLt; have := b'.isLt
  have e1 : c.val = c'.val := by omega
  have e2 : i.val = i'.val := by omega
  have e3 : b.val = b'.val := by omega
  exact Prod.ext (Prod.ext (Fin.ext e1) (Fin.ext e2)) (Fin.ext e3)

theorem idx_lt (x : S4096x4096.Idx) (a : Fin 2) : (x a).val < 4096 :=
  lt_of_lt_of_le (x a).isLt (show S4096x4096.size a ≤ 4096 by fin_cases a <;> decide)
theorem brect_cover : (Finset.univ : Finset ((Fin 2 × Fin 16) × Fin 128)).biUnion (fun p => (brect p).set) = Finset.univ := by
  refine Finset.eq_univ_of_forall fun x => ?_
  rw [Finset.mem_biUnion]
  have h0 := idx_lt x 0
  have h1 := idx_lt x 1
  refine ⟨((⟨(x 0).val / 2048, by omega⟩, ⟨(x 0).val % 2048 / 128, by omega⟩), ⟨8 * ((x 0).val % 128 / 8) + (x 1).val / 512, by omega⟩), Finset.mem_univ _, ?_⟩
  rw [mem_brect]
  dsimp only
  omega

theorem xblk_set (L : grid0.Coords) (b : Fin 128) : (xblk L b).view.set = (Rect.unit (s := S4096x4096) (blkOff L b) S8x512.size (blkOff_inb L b)).set :=
  (View.set_slice _ _).trans Finset.map_refl
theorem oblk_set (L : grid0.Coords) (b : Fin 128) : (oblk L b).view.set = (Rect.unit (s := S4096x4096) (blkOff L b) S8x512.size (blkOff_inb L b)).set :=
  (View.set_slice _ _).trans Finset.map_refl

/-- The table's contents as the result's. -/
def asO (d : Dev nD) (f : Buf (Elt F) (xLoc d)) : Buf (Elt F) (oLoc d) := f

/-- A tile's blocks of the table at `f`; of the result at `f`. -/
def xTile (d : Dev nD) (f : Buf (Elt F) (xLoc d)) (c : Fin 2) (i : Fin 16) : sProp 𝕄 :=
  bigSep Finset.univ fun b : Fin 128 => xLoc d ↦[(brect ((c, i), b)).set]{fullShare} f
def oTile (d : Dev nD) (f : Buf (Elt F) (oLoc d)) (c : Fin 2) (i : Fin 16) : sProp 𝕄 :=
  bigSep Finset.univ fun b : Fin 128 => oLoc d ↦[(brect ((c, i), b)).set]{fullShare} f
instance xTile_storable (d : Dev nD) (f : Buf (Elt F) (xLoc d)) (c : Fin 2) (i : Fin 16) : BI.Storable (upEmb : UEmb _ 𝕄) (xTile d f c i) := by
  unfold xTile; infer_instance
instance oTile_storable (d : Dev nD) (f : Buf (Elt F) (oLoc d)) (c : Fin 2) (i : Fin 16) : BI.Storable (upEmb : UEmb _ 𝕄) (oTile d f c i) := by
  unfold oTile; infer_instance

theorem xTile_eq (d : Dev nD) (f : Buf (Elt F) (xLoc d)) (c : Fin 2) (i : Fin 16) : xTile d f c i = bigSep Finset.univ (xP d (coordsV c i) f) :=
  bigSep_congr fun b _ => by unfold xP; rw [xblk_set]; rfl
theorem oTile_eq (d : Dev nD) (f : Buf (Elt F) (oLoc d)) (c : Fin 2) (i : Fin 16) : oTile d f c i = bigSep Finset.univ fun b => oP d (coordsV c i) b f :=
  bigSep_congr fun b _ => by unfold oP; rw [oblk_set]; rfl

theorem x_tiles (d : Dev nD) (f : Buf (Elt F) (xLoc d)) :
    (xLoc d ↦{fullShare} f : sProp 𝕄) = bigSep Finset.univ fun c : Fin 2 => bigSep Finset.univ fun i : Fin 16 => xTile d f c i := by
  have h : (xLoc d ↦{fullShare} f : sProp 𝕄) = bigSep Finset.univ fun p : (Fin 2 × Fin 16) × Fin 128 => xLoc d ↦[(brect p).set]{fullShare} f := by
    rw [← pointsTo_biUnion Finset.univ (ℓ := xLoc d) (fun p => (brect p).set) brect_disjoint, brect_cover]; try rfl
  rw [h, BI.bigSep_univ_prod, BI.bigSep_univ_prod]; rfl
theorem o_tiles (d : Dev nD) (f : Buf (Elt F) (oLoc d)) :
    (oLoc d ↦{fullShare} f : sProp 𝕄) = bigSep Finset.univ fun c : Fin 2 => bigSep Finset.univ fun i : Fin 16 => oTile d f c i := by
  have h : (oLoc d ↦{fullShare} f : sProp 𝕄) = bigSep Finset.univ fun p : (Fin 2 × Fin 16) × Fin 128 => oLoc d ↦[(brect p).set]{fullShare} f := by
    rw [← pointsTo_biUnion Finset.univ (ℓ := oLoc d) (fun p => (brect p).set) brect_disjoint, brect_cover]; try rfl
  rw [h, BI.bigSep_univ_prod, BI.bigSep_univ_prod]; rfl

/-! ## What the handshakes carry -/

variable (m : (ℓ : Loc nD τ sig) → Buf (Elt F) ℓ) (ρ : Dev nD → PrngReg)

/-- What a tile is handed, and what it hands back: its blocks of the table and of the result, back at the table's words. -/
def goT (d : Dev nD) (c : Fin 2) (i : Fin 16) : sProp 𝕄 := iprop(xTile d (m (xLoc d)) c i ∗ oTile d (m (oLoc d)) c i)
def tdT (d : Dev nD) (c : Fin 2) (i : Fin 16) : sProp 𝕄 := iprop(xTile d (m (xLoc d)) c i ∗ oTile d (asO d (m (xLoc d))) c i)
/-- What a core is handed, and what it hands back: its tiles' pieces. -/
def stC (d : Dev nD) (c : Fin 2) : sProp 𝕄 := bigSep Finset.univ fun i : Fin 16 => goT m d c i
def dnC (d : Dev nD) (c : Fin 2) : sProp 𝕄 := bigSep Finset.univ fun i : Fin 16 => tdT m d c i
instance goT_storable (d : Dev nD) (c : Fin 2) (i : Fin 16) : BI.Storable (upEmb : UEmb _ 𝕄) (goT m d c i) := by unfold goT; infer_instance
instance tdT_storable (d : Dev nD) (c : Fin 2) (i : Fin 16) : BI.Storable (upEmb : UEmb _ 𝕄) (tdT m d c i) := by unfold tdT; infer_instance
instance stC_storable (d : Dev nD) (c : Fin 2) : BI.Storable (upEmb : UEmb _ 𝕄) (stC m d c) := by unfold stC; infer_instance
instance dnC_storable (d : Dev nD) (c : Fin 2) : BI.Storable (upEmb : UEmb _ 𝕄) (dnC m d c) := by unfold dnC; infer_instance

/-- Call 0. -/
def P : (K (F := F)).Pay (nD := nD) (Val := Elt F) (Name := ℕ) (U := UU) where
  st := fun q d c => match q with | 0 => stC m d (Fin.cast nCore_zero c)
  dn := fun q d c => match q with | 0 => dnC m d (Fin.cast nCore_zero c)
  go := fun q d c i => match q with | 0 => goT m d (Fin.cast nCore_zero c) (Fin.cast nSub_zero i)
  td := fun q d c i => match q with | 0 => tdT m d (Fin.cast nCore_zero c) (Fin.cast nSub_zero i)
  x := fun _ _ => iprop(emp)

theorem P_st (d : Dev nD) (c : Fin ((K (F := F)).nCore 0)) : (P m).st 0 d c = stC m d (Fin.cast nCore_zero c) := by delta P; dsimp only
theorem P_dn (d : Dev nD) (c : Fin ((K (F := F)).nCore 0)) : (P m).dn 0 d c = dnC m d (Fin.cast nCore_zero c) := by delta P; dsimp only
theorem P_go (d : Dev nD) (c : Fin ((K (F := F)).nCore 0)) (i : Fin ((K (F := F)).nSub 0)) :
    (P m).go 0 d c i = goT m d (Fin.cast nCore_zero c) (Fin.cast nSub_zero i) := by delta P; dsimp only
theorem P_td (d : Dev nD) (c : Fin ((K (F := F)).nCore 0)) (i : Fin ((K (F := F)).nSub 0)) :
    (P m).td 0 d c i = tdT m d (Fin.cast nCore_zero c) (Fin.cast nSub_zero i) := by delta P; dsimp only
theorem P_x (q : Fin 1) (t : Thread nD τ) : (P (F := F) m).x q t = iprop(emp) := rfl
theorem P_ox : (P (F := F) m).ox = fun _ _ => 0 := rfl

instance P_storable : (P (F := F) m).IsStorable where
  st q d c := by obtain rfl : q = 0 := Subsingleton.elim q 0; rw [P_st]; infer_instance
  dn q d c := by obtain rfl : q = 0 := Subsingleton.elim q 0; rw [P_dn]; infer_instance
  go q d c i := by obtain rfl : q = 0 := Subsingleton.elim q 0; rw [P_go]; infer_instance
  td q d c i := by obtain rfl : q = 0 := Subsingleton.elim q 0; rw [P_td]; infer_instance

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  simp only [P_st, P_dn, P_go, P_td]
  rw [bigSep_tasks (F := F) (goT m d (Fin.cast nCore_zero c)), bigSep_tasks (F := F) (tdT m d (Fin.cast nCore_zero c))]
  unfold stC dnC
  iintro H; imodintro
  isplitl [H]; · iexact H
  iintro H; iexact H

theorem stC_all (d : Dev nD) : bigSep Finset.univ (stC m d) = iprop((xLoc d ↦{fullShare} m (xLoc d)) ∗ oLoc d ↦{fullShare} m (oLoc d)) := by
  rw [x_tiles, o_tiles, ← bigSep_sep']
  refine bigSep_congr fun c _ => ?_
  rw [← bigSep_sep']; unfold stC goT; rfl
theorem dnC_all (d : Dev nD) : bigSep Finset.univ (dnC m d) = iprop((xLoc d ↦{fullShare} m (xLoc d)) ∗ oLoc d ↦{fullShare} asO d (m (xLoc d))) := by
  rw [x_tiles, o_tiles, ← bigSep_sep']
  refine bigSep_congr fun c _ => ?_
  rw [← bigSep_sep']; unfold dnC tdT; rfl
theorem st0_eq (d : Dev nD) : (bigSep Finset.univ fun c : Fin ((K (F := F)).nCore 0) => (P m).st 0 d c)
    = iprop((xLoc d ↦{fullShare} m (xLoc d)) ∗ oLoc d ↦{fullShare} m (oLoc d)) := by
  simp only [P_st]; rw [bigSep_cores (F := F) (stC m d), stC_all]
theorem dn0_eq (d : Dev nD) : (bigSep Finset.univ fun c : Fin ((K (F := F)).nCore 0) => (P m).dn 0 d c)
    = iprop((xLoc d ↦{fullShare} m (xLoc d)) ∗ oLoc d ↦{fullShare} asO d (m (xLoc d))) := by
  simp only [P_dn]; rw [bigSep_cores (F := F) (dnC m d), dnC_all]

/-! ## A tile's scoped storage: the slots and their semaphores -/

section TileBody
variable (d : Dev nD) (L : grid0.Coords)

abbrev csem (k : Nat) (hk : k < 4 := by decide) : DmaSem sig := ⟨k, lt_of_lt_of_le hk (by decide)⟩
abbrev dcell (d : Dev nD) (c : Fin τ.nSC) (i : Fin τ.nSub) (k : Fin 4) : GSem nD τ sig := (V d c i, .dma (csem k.val k.isLt))
theorem isem0 : (isem 0).sem = csem 0 := rfl
theorem isem1 : (isem 1).sem = csem 1 := rfl
theorem osem0 : (osem 0).sem = csem 2 := rfl
theorem osem1 : (osem 1).sem = csem 3 := rfl

theorem dcell_mem (c : Fin τ.nSC) (i : Fin τ.nSub) (k : Fin 4) : dcell d c i k ∈ ownCells (V d c i) :=
  mem_ownCells.mpr ⟨rfl, (show ∀ s : DmaSem sig, (SemLoc.dma s : SemLoc sig).isScoped .scVector = true by decide) _⟩

theorem ownSems0_V :
    (ownSems0 (thr d L) : sProp 𝕄)
      = iprop((icell d L 0 ∗ icell d L 1 ∗ ocell d L 0 ∗ ocell d L 1)
          ∗ bigSep ((ownCells (thr d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 4)) = {0, 1, 2, 3} by decide,
    SparseCore.bigSep_insert' (by decide), SparseCore.bigSep_insert' (by decide), SparseCore.bigSep_insert' (by decide), bigSep_singleton]
  rfl

theorem ownBufs_V :
    (ownBufs (thr d L) : sProp 𝕄)
      = iprop((∃ f, (thr d L).loc cc0_scoped0 ↦{fullShare} f) ∗ (∃ f, (thr d L).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-- Slot `s` of a staging buffer. -/
abbrev srect (s : Fin 2) : Rect S2x8x512 := Rect.unit (s := S2x8x512) (slotOff s) S1x8x512.size (slotOff_inb s)
theorem mem_srect (s : Fin 2) (x : S2x8x512.Idx) : x ∈ (srect s).set ↔ (x 0).val = s.val := by
  rw [Rect.mem_set_unit]
  have h1 : (x 1).val < 8 := (x 1).isLt
  have h2 : (x 2).val < 512 := (x 2).isLt
  constructor
  · intro h
    have h0 : s.val ≤ (x 0).val ∧ (x 0).val < s.val + 1 := h 0
    omega
  · intro h a
    fin_cases a
    · show s.val ≤ (x 0).val ∧ (x 0).val < s.val + 1; omega
    · show 0 ≤ (x 1).val ∧ (x 1).val < 0 + 8; omega
    · show 0 ≤ (x 2).val ∧ (x 2).val < 0 + 512; omega
theorem srect_disjoint : ∀ s ∈ (Finset.univ : Finset (Fin 2)), ∀ s' ∈ (Finset.univ : Finset (Fin 2)), s ≠ s' → Disjoint (srect s).set (srect s').set := by
  rintro s - s' - h
  rw [Finset.disjoint_left]
  intro x hx hx'
  rw [mem_srect] at hx hx'
  exact h (Fin.ext (hx.symm.trans hx'))
theorem srect_cover : (Finset.univ : Finset (Fin 2)).biUnion (fun s => (srect s).set) = Finset.univ :=
  Finset.eq_univ_of_forall fun x => Finset.mem_biUnion.mpr ⟨⟨(x 0).val, (x 0).isLt⟩, Finset.mem_univ _, (mem_srect _ x).mpr rfl⟩

theorem islot_set (s : Fin 2) : (islot s).view.set = (srect s).set :=
  (View.set_reshape _ _).trans ((View.set_slice _ _).trans Finset.map_refl)
theorem oslot_set (s : Fin 2) : (oslot s).view.set = (srect s).set :=
  (View.set_reshape _ _).trans ((View.set_slice _ _).trans Finset.map_refl)

theorem in_slots (f : Buf (Elt F) ((thr d L).loc cc0_scoped0)) :
    ((thr d L).loc cc0_scoped0 ↦{fullShare} f : sProp 𝕄) = iprop(inP d L 0 f ∗ inP d L 1 f) := by
  have h : ((thr d L).loc cc0_scoped0 ↦{fullShare} f : sProp 𝕄) = bigSep Finset.univ fun s : Fin 2 => (thr d L).loc cc0_scoped0 ↦[(srect s).set]{fullShare} f := by
    rw [← pointsTo_biUnion Finset.univ (ℓ := (thr d L).loc cc0_scoped0) (fun s => (srect s).set) srect_disjoint, srect_cover]; try rfl
  rw [h, bigSep_fin_two]; unfold inP; rw [islot_set, islot_set]; rfl
theorem out_slots (f : Buf (Elt F) ((thr d L).loc cc0_scoped2)) :
    ((thr d L).loc cc0_scoped2 ↦{fullShare} f : sProp 𝕄) = iprop(outP d L 0 f ∗ outP d L 1 f) := by
  have h : ((thr d L).loc cc0_scoped2 ↦{fullShare} f : sProp 𝕄) = bigSep Finset.univ fun s : Fin 2 => (thr d L).loc cc0_scoped2 ↦[(srect s).set]{fullShare} f := by
    rw [← pointsTo_biUnion Finset.univ (ℓ := (thr d L).loc cc0_scoped2) (fun s => (srect s).set) srect_disjoint, srect_cover]; try rfl
  rw [h, bigSep_fin_two]; unfold outP; rw [oslot_set, oslot_set]; rfl

theorem in_join : iprop((∃ f, inP (F := F) d L 0 f) ∗ ∃ f, inP (F := F) d L 1 f) ⊢ (iprop(∃ f, (thr d L).loc cc0_scoped0 ↦{fullShare} f) : sProp 𝕄) := by
  iintro ⟨⟨%f0, H0⟩, ⟨%f1, H1⟩⟩
  ihave H := (show iprop(inP (F := F) d L 0 f0 ∗ inP (F := F) d L 1 f1) ⊢ (bigSep Finset.univ fun s : Fin 2 =>
      ((thr d L).loc cc0_scoped0 ↦[(srect s).set]{fullShare} (![f0, f1] s : Buf (Elt F) ((thr d L).loc cc0_scoped0)) : sProp 𝕄)) from by
    rw [bigSep_fin_two]; unfold inP; rw [islot_set, islot_set]; exact .rfl) $$ [H0 H1]
  · isplitl [H0]; · iexact H0
    iexact H1
  have : Nonempty (Buf (Elt F) ((thr d L).loc cc0_scoped0)) := ⟨f0⟩
  ihave H' := (pointsTo_biUnion_join (ℓ := (thr d L).loc cc0_scoped0) (q := fullShare) (Val := Elt F) Finset.univ (fun s => (srect s).set) (fun s => ![f0, f1] s) f0 srect_disjoint) $$ H
  icases H' with ⟨%g, -, Hg⟩
  rw [srect_cover]
  iexists g; iexact Hg
theorem out_join : iprop((∃ f, outP (F := F) d L 0 f) ∗ ∃ f, outP (F := F) d L 1 f) ⊢ (iprop(∃ f, (thr d L).loc cc0_scoped2 ↦{fullShare} f) : sProp 𝕄) := by
  iintro ⟨⟨%f0, H0⟩, ⟨%f1, H1⟩⟩
  ihave H := (show iprop(outP (F := F) d L 0 f0 ∗ outP (F := F) d L 1 f1) ⊢ (bigSep Finset.univ fun s : Fin 2 =>
      ((thr d L).loc cc0_scoped2 ↦[(srect s).set]{fullShare} (![f0, f1] s : Buf (Elt F) ((thr d L).loc cc0_scoped2)) : sProp 𝕄)) from by
    rw [bigSep_fin_two]; unfold outP; rw [oslot_set, oslot_set]; exact .rfl) $$ [H0 H1]
  · isplitl [H0]; · iexact H0
    iexact H1
  have : Nonempty (Buf (Elt F) ((thr d L).loc cc0_scoped2)) := ⟨f0⟩
  ihave H' := (pointsTo_biUnion_join (ℓ := (thr d L).loc cc0_scoped2) (q := fullShare) (Val := Elt F) Finset.univ (fun s => (srect s).set) (fun s => ![f0, f1] s) f0 srect_disjoint) $$ H
  icases H' with ⟨%g, -, Hg⟩
  rw [srect_cover]
  iexists g; iexact Hg

/-- A tile, from what the launch deals it to what it hands back. -/
theorem tile_body' (hF : (K (F := F)).Facts) (XA : Buf (Elt F) (xLoc d)) (OB : Buf (Elt F) (oLoc d)) (O : CellTallies nD τ sig (HIx 1)) (W : Waits sig (HIx 1)) (hO : ∀ g, O g none = 0) :
    iprop(levAts (K (F := F)).L (K (F := F)).lev ∗ emp
        ∗ (bigSep Finset.univ (xP d L XA) ∗ bigSep Finset.univ fun b => oP d L b OB)
        ∗ scopedBufs (thr d L) ∗ scopedSems0 (thr d L) ∗ owes (thr d L) O W)
      ⊢ wp frame (wpE (defs₀ (F := F)) 𝒱₀ (thr d L) none) Set.univ
          (cc0_k L xV (Memref.isWhole_whole _) oV (Memref.isWhole_whole _) inV (Memref.isWhole_whole _) cc0_scoped1 outV (Memref.isWhole_whole _) cc0_scoped3)
          fun _ => iprop((bigSep Finset.univ (xP d L XA) ∗ bigSep Finset.univ fun b => oP d L b (XA : Buf (Elt F) (oLoc d)))
            ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%g0, HG⟩, ⟨%t0, HT⟩, Hbufs⟩, ⟨⟨Hi0, Hi1, Ho0, Ho1⟩, Hsems⟩, HO⟩
  ihave Hmw := (show levAts (K (F := F)).L (K (F := F)).lev ⊢ Transfers.MayWaits (thr d L) (default : HIx 1) O from
    (K (F := F)).mayWaits_none (thr := thr d L) hO) $$ Hlv
  ihave HG' := (Entails.of_eq (in_slots (F := F) d L g0)) $$ HG
  icases HG' with ⟨HG0, HG1⟩
  ihave HT' := (Entails.of_eq (out_slots (F := F) d L t0)) $$ HT
  icases HT' with ⟨HT0, HT1⟩
  iapply (wp_wand_r Idealize.ShloMosaic.frame (wpE (defs₀ (F := F)) 𝒱₀ (thr d L) none) Set.univ)
  isplitl [Hx Ho HG0 HG1 HT0 HT1 Hi0 Hi1 Ho0 Ho1 HO]
  · iapply (tile_run d L XA OB O W)
    isplitr; · iexact Hmw
    isplitl [Hx]; · iexact Hx
    isplitl [Ho]; · iexact Ho
    isplitl [HG0 Hi0]
    · isplitl [HG0]; · iexists g0; iexact HG0
      iexact Hi0
    isplitl [HG1 Hi1]
    · isplitl [HG1]; · iexists g0; iexact HG1
      iexact Hi1
    isplitl [HT0 Ho0]
    · isplitl [HT0]; · iexists t0; iexact HT0
      iexact Ho0
    isplitl [HT1 Ho1]
    · isplitl [HT1]; · iexists t0; iexact HT1
      iexact Ho1
    iexact HO
  iintro %_ ⟨Hx, Ho, ⟨HG0, Hi0⟩, ⟨HG1, Hi1⟩, ⟨HT0, Ho0⟩, ⟨HT1, Ho1⟩, ⟨%W', -, HO⟩⟩
  isplitl [Hx Ho]
  · isplitl [Hx]; · iexact Hx
    iexact Ho
  isplitl [HG0 HG1 HT0 HT1 Hbufs]
  · isplitl [HG0 HG1]
    · iapply (in_join d L)
      isplitl [HG0]; · iexact HG0
      iexact HG1
    isplitl [HT0 HT1]
    · iapply (out_join d L)
      isplitl [HT0]; · iexact HT0
      iexact HT1
    iexact Hbufs
  isplitl [Hi0 Hi1 Ho0 Ho1 Hsems]
  · isplitl [Hi0 Hi1 Ho0 Ho1]
    · isplitl [Hi0]; · iexact Hi0
      isplitl [Hi1]; · iexact Hi1
      isplitl [Ho0]; · iexact Ho0
      iexact Ho1
    iexact Hsems
  iexists W'; isplitr
  · ipureintro; intro p _
    rcases p.2 with _ | q
    · exact .inr (.inl rfl)
    · exact .inr (.inr (congrArg some (Subsingleton.elim q 0)))
  · iexact HO

end TileBody

/-- The same, over the tile's blocks as the handshakes carry them. -/
theorem tile_body (d : Dev nD) (c : Fin 2) (i : Fin 16) (hF : (K (F := F)).Facts) (XA : Buf (Elt F) (xLoc d)) (OB : Buf (Elt F) (oLoc d)) (O : CellTallies nD τ sig (HIx 1)) (W : Waits sig (HIx 1)) (hO : ∀ g, O g none = 0) :
    iprop(levAts (K (F := F)).L (K (F := F)).lev ∗ emp
        ∗ (xTile d XA c i ∗ oTile d OB c i)
        ∗ scopedBufs (thr d (coordsV c i)) ∗ scopedSems0 (thr d (coordsV c i)) ∗ owes (thr d (coordsV c i)) O W)
      ⊢ wp frame (wpE (defs₀ (F := F)) 𝒱₀ (thr d (coordsV c i)) none) Set.univ
          (cc0_k (coordsV c i) xV (Memref.isWhole_whole _) oV (Memref.isWhole_whole _) inV (Memref.isWhole_whole _) cc0_scoped1 outV (Memref.isWhole_whole _) cc0_scoped3)
          fun _ => iprop((xTile d XA c i ∗ oTile d (asO d XA) c i)
            ∗ scopedBufs (thr d (coordsV c i)) ∗ scopedSems0 (thr d (coordsV c i))
            ∗ ∃ W', ⌜∀ p ∈ W', p ∈ W ∨ p.2 = none ∨ p.2 = some (0 : Fin 1)⌝ ∗ owes (thr d (coordsV c i)) O W') := by
  rw [xTile_eq, oTile_eq, oTile_eq]
  exact tile_body' d (coordsV c i) hF XA OB O W hO

theorem defs₀_vector (c : Fin τ.nSC) (s : Fin τ.nSub) :
    defs₀ (F := F) (.scVector c s) 0 ()
      = SparseCore.onTile hcore0 hsub0 (fun c s => cc0_k (coordsV c s)
          xV (Memref.isWhole_whole _) oV (Memref.isWhole_whole _) inV (Memref.isWhole_whole _) cc0_scoped1 outV (Memref.isWhole_whole _) cc0_scoped3) ⟨⟩ c s := rfl

theorem tileObl (hF : (K (F := F)).Facts) : (K (F := F)).TileObl (D (F := F)) 𝒱 (P m) v₀ 0 := by
  intro d c i O W hO _ _
  simp only [P_ox, P_x, P_go, P_td, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  unfold goT tdT
  exact tile_body d ⟨_, hci.1⟩ ⟨_, hci.2⟩ hF (m (xLoc d)) (m (oLoc d)) O W hO

end Cert.Proof.Tile
-- ==== Proof.Bodies.lean ====
/-
  The three TensorCore bodies: what each leaves in its two result windows, as a function of its four operand blocks.
-/
module

public import proofs.«01_k».proof.Proof.Launch
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody

@[expose] public section

noncomputable section

namespace Cert.Proof.Tile

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A load of the whole block reads the block. -/
theorem ld_whole {S : Shape} {e : EltTy} (X : S.Idx → Elt F e) (off : Fin S.rank → ℕ) (h0 : ∀ a, off a = 0) (h : ∀ a, off a + S.size a ≤ S.size a) :
    View.ld X (Rect.unit (s := S) off S.size h) = X := by
  funext x
  refine congrArg X (funext fun a => Fin.ext ?_)
  simp [h0]

/-- A buffer stored whole reads what was stored. -/
theorem read_one {κ : Kind} {sp : Space} {S : Shape} {e : EltTy} (v : View sig κ sp S e) (f : v.ty.Contents (Elt F)) (off : Fin S.rank → ℕ) (h0 : ∀ a, off a = 0)
    (h : ∀ a, off a + S.size a ≤ S.size a) (X : S.Idx → Elt F e) :
    v.read (Elt F) (v.writes (Elt F) f [⟨Rect.unit (s := S) off S.size h, X⟩]) = X := by
  funext y
  have hy : (Rect.unit (s := S) off S.size h).emb y = y := funext fun a => Fin.ext (by
    show off a + 1 * (y a).val = (y a).val
    rw [h0]; omega)
  have := View.read_writes_cons_emb v f (Rect.unit (s := S) off S.size h) X [] y
  rw [hy] at this
  exact this

/-- A buffer stored whole and then in a part reads the part's payload over what was stored first. -/
theorem read_two {κ : Kind} {sp : Space} {S : Shape} {e : EltTy} (v : View sig κ sp S e) (f : v.ty.Contents (Elt F)) (off : Fin S.rank → ℕ) (h0 : ∀ a, off a = 0)
    (h : ∀ a, off a + S.size a ≤ S.size a) (X : S.Idx → Elt F e) (r : Rect S) (w : r.shape.Idx → Elt F e) :
    v.read (Elt F) (v.writes (Elt F) f [⟨r, w⟩, ⟨Rect.unit (s := S) off S.size h, X⟩]) = r.overlay X w := by
  funext y
  by_cases hy : y ∈ r.set
  · obtain ⟨x, rfl⟩ : ∃ x, r.emb x = y := r.exists_idx_of_mem hy
    rw [View.read_writes_cons_emb, r.overlay_emb]
  · have hy' : y ∉ Finset.univ.map r.emb := by rwa [Rect.map_emb_univ]
    rw [View.writes_cons, View.read_slice_write_of_not_mem r _ _ _ hy', r.overlay_of_not_mem _ _ hy]
    exact congrFun (read_one v f off h0 h X) y

theorem ld_read {κ : Kind} {sp : Space} {S : Shape} {e : EltTy} (v : View sig κ sp S e) (f : v.ty.Contents (Elt F)) (X : S.Idx → Elt F e) (hf : v.read (Elt F) f = X)
    (off : Fin S.rank → ℕ) (h0 : ∀ a, off a = 0) (h : ∀ a, off a + S.size a ≤ S.size a) :
    v.readAt (Elt F) (Rect.unit (s := S) off S.size h).toLoadRect f = X := by
  subst hf; exact ld_whole _ off h0 h

theorem o2 : ∀ a : Fin 2, (![0, 0] : Fin 2 → ℕ) a = 0 := by decide

/-- The four mixing weights (the last is the offset). -/
abbrev mpAt (X4 : S4.Idx → Elt F .f32) (k : Fin 4) : Elt F .f32 := X4 (fun | ⟨0, _⟩ => k)

theorem mp_read {κ : Kind} {sp : Space} (v : View sig κ sp S4 .f32) (f : v.ty.Contents (Elt F)) (X : S4.Idx → Elt F .f32) (hf : v.read (Elt F) f = X)
    (k : Fin 4) (off : Fin 1 → ℕ) (ho : off 0 = k.val) (h : ∀ a, off a + S1.size a ≤ S4.size a) (hn) :
    v.readAt (Elt F) (Rect.unit (s := S4) off S1.size h).toLoadRect f (Shape.Idx.first hn) = mpAt X k := by
  subst hf
  show v.read (Elt F) f _ = v.read (Elt F) f _
  refine congrArg (v.read (Elt F) f) (funext fun a => Fin.ext ?_)
  fin_cases a
  show off 0 + 1 * 0 = k.val
  omega

theorem k3_pay1_eq : k3_pay1 (F := F) = k2_pay1 := rfl
theorem k3_pay2_eq : k3_pay2 (F := F) = k2_pay2 := rfl
theorem k1_pay1_eq : k1_pay1 (F := F) = k2_pay1 := by
  funext v1 v3 v5
  unfold k1_pay1 k2_pay1
  rw [shapeCast_self v1]
theorem k1_pay3_eq : k1_pay3 (F := F) = k2_pay2 := by
  unfold k1_pay3 k2_pay2
  rw [k1_pay1_eq]

/-- The first row of the activations' block. -/
abbrev row0 (X1 : S32x4096.Idx → Elt F .f32) : S1x4096.Idx → Elt F .f32 := View.ld X1 (Rect.unit (s := S32x4096) ![0, 0] S1x4096.size inb_S32x4096_S1x4096_0_0)

/-- The mixed 32x32 corner, from the activations, the weights' block, the bias's block and the mixing weights. -/
def corner (X1 : S32x4096.Idx → Elt F .f32) (X2 : S512x4096.Idx → Elt F .f32) (X3 : S1x512.Idx → Elt F .f32) (X4 : S4.Idx → Elt F .f32) : S32x32.Idx → Elt F .f32 :=
  k2_pay2 X2 X1 X2 X3 (row0 X1) (mpAt X4 0) (mpAt X4 1) (mpAt X4 2) (mpAt X4 3)

/-- The weights' block a full body leaves at its first grid point: the corner over the block. -/
def fullW (X1 : S32x4096.Idx → Elt F .f32) (X2 : S512x4096.Idx → Elt F .f32) (X3 : S1x512.Idx → Elt F .f32) (X4 : S4.Idx → Elt F .f32) : S512x4096.Idx → Elt F .f32 :=
  (Rect.unit (s := S512x4096) ![0, 0] S32x32.size inb_S512x4096_S32x32_0_0).overlay X2 (corner X1 X2 X3 X4)

/-- The stripe the stripe body leaves at its first grid point: the corner over the block's first 32 rows. -/
def stripeW (X1 : S32x4096.Idx → Elt F .f32) (X2 : S512x4096.Idx → Elt F .f32) (X3 : S1x512.Idx → Elt F .f32) (X4 : S4.Idx → Elt F .f32) : S32x4096.Idx → Elt F .f32 :=
  (Rect.unit (s := S32x4096) ![0, 0] S32x32.size inb_S32x4096_S32x32_0_0).overlay (k1_pay2 X2) (corner X1 X2 X3 X4)

theorem cond_zero : ∀ i : grid2.Coords, Iff (Scalar.cmpi .ne (Scalar.extui (Scalar.cmpi .eq (BitVec.ofNat 32 (i 0).val) 0#32) : BitVec 32) 0#32 = 1#1) ((i 0).val = 0) := by
  decide

theorem cond_zero1 : ∀ i : grid1.Coords, Iff (k1_cond1 i = 1#1) ((i 0).val = 0) := by
  decide

variable (c : Dev nD)

theorem body1_first (i : grid1.Coords) (hi : (i 0).val = 0) (M1 : Memref sig .tc .vmem S32x4096 .f32) (h1 : M1.IsWhole) (M2 : Memref sig .tc .vmem S512x4096 .f32) (h2 : M2.IsWhole)
    (M3 : Memref sig .tc .vmem S1x512 .f32) (h3 : M3.IsWhole) (M4 : Memref sig .tc .smem S4 .f32) (h4 : M4.IsWhole) (M5 : Memref sig .tc .vmem S32x512 .f32) (h5 : M5.IsWhole)
    (M6 : Memref sig .tc .vmem S32x4096 .f32) (h6 : M6.IsWhole)
    (X1 : S32x4096.Idx → Elt F .f32) (X2 : S512x4096.Idx → Elt F .f32) (X3 : S1x512.Idx → Elt F .f32) (X4 : S4.Idx → Elt F .f32) (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4
        ∗ (∃ d, owns (c : Thread nD τ) M5 fullShare d) ∗ (∃ d, owns (c : Thread nD τ) M6 fullShare d)
        ∗ (iprop(owns (c : Thread nD τ) M1 fullShare X1 ∗ owns (c : Thread nD τ) M2 fullShare X2 ∗ owns (c : Thread nD τ) M3 fullShare X3 ∗ owns (c : Thread nD τ) M4 fullShare X4
            ∗ owns (c : Thread nD τ) M5 fullShare (k2_pay1 X1 X2 X3) ∗ owns (c : Thread nD τ) M6 fullShare (stripeW X1 X2 X3 X4)) -∗ Q ⟨⟩))
      ⊢ wp frame (wpE (defs₀ (F := F)) 𝒱₀ (c : Thread nD τ) none) E (cc1__stripe_body i M1 h1 M2 h2 M3 h3 M4 h4 M5 h5 M6 h6) Q := by
  rw [cc1__stripe_body_eq_skeleton]; unfold cc1__stripe_body_skel
  unfold owns
  have hc := (cond_zero1 i).mpr hi
  iintro ⟨⟨%f1, %e1, H1⟩, ⟨%f2, %e2, H2⟩, ⟨%f3, %e3, H3⟩, ⟨%f4, %e4, H4⟩, ⟨%d5, %f5, -, H5⟩, ⟨%d6, %f6, -, H6⟩, Hk⟩
  sl_exec (disch := sl_exact hc)
  rw [wp_ret]; imodintro
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]
  · iexists _; isplitr; swap; · iexact H5
    ipureintro
    rw [read_one _ _ _ o2, ld_read _ _ _ e1 _ o2, ld_read _ _ _ e2 _ o2, ld_read _ _ _ e3 _ o2]; rw [k1_pay1_eq]
  · iexists _; isplitr; swap; · iexact H6
    ipureintro
    rw [read_two _ _ _ o2, ld_read _ _ _ e1 _ o2, ld_read _ _ _ e2 _ o2, ld_read _ _ _ e3 _ o2]
    delta body1_first.sl.r body1_first.sl.r_1 body1_first.sl.r_2 body1_first.sl.r_3
    rw [mp_read _ _ _ e4 0 _ rfl, mp_read _ _ _ e4 1 _ rfl, mp_read _ _ _ e4 2 _ rfl, mp_read _ _ _ e4 3 _ rfl, View.readAt_eq_ld, e1]
    rw [k1_pay3_eq]; rfl

theorem body1_later (i : grid1.Coords) (hi : ¬ (i 0).val = 0) (M1 : Memref sig .tc .vmem S32x4096 .f32) (h1 : M1.IsWhole) (M2 : Memref sig .tc .vmem S512x4096 .f32) (h2 : M2.IsWhole)
    (M3 : Memref sig .tc .vmem S1x512 .f32) (h3 : M3.IsWhole) (M4 : Memref sig .tc .smem S4 .f32) (h4 : M4.IsWhole) (M5 : Memref sig .tc .vmem S32x512 .f32) (h5 : M5.IsWhole)
    (M6 : Memref sig .tc .vmem S32x4096 .f32) (h6 : M6.IsWhole)
    (X1 : S32x4096.Idx → Elt F .f32) (X2 : S512x4096.Idx → Elt F .f32) (X3 : S1x512.Idx → Elt F .f32) (X4 : S4.Idx → Elt F .f32) (X6 : S32x4096.Idx → Elt F .f32) (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4
        ∗ (∃ d, owns (c : Thread nD τ) M5 fullShare d) ∗ owns (c : Thread nD τ) M6 fullShare X6
        ∗ (iprop(owns (c : Thread nD τ) M1 fullShare X1 ∗ owns (c : Thread nD τ) M2 fullShare X2 ∗ owns (c : Thread nD τ) M3 fullShare X3 ∗ owns (c : Thread nD τ) M4 fullShare X4
            ∗ owns (c : Thread nD τ) M5 fullShare (k2_pay1 X1 X2 X3) ∗ owns (c : Thread nD τ) M6 fullShare (X6)) -∗ Q ⟨⟩))
      ⊢ wp frame (wpE (defs₀ (F := F)) 𝒱₀ (c : Thread nD τ) none) E (cc1__stripe_body i M1 h1 M2 h2 M3 h3 M4 h4 M5 h5 M6 h6) Q := by
  rw [cc1__stripe_body_eq_skeleton]; unfold cc1__stripe_body_skel
  unfold owns
  have hc := fun h => hi ((cond_zero1 i).mp h)
  iintro ⟨⟨%f1, %e1, H1⟩, ⟨%f2, %e2, H2⟩, ⟨%f3, %e3, H3⟩, ⟨%f4, %e4, H4⟩, ⟨%d5, %f5, -, H5⟩, ⟨%f6, %e6, H6⟩, Hk⟩
  sl_exec (disch := sl_exact hc)
  rw [wp_ret]; imodintro
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]
  · iexists _; isplitr; swap; · iexact H5
    ipureintro
    rw [read_one _ _ _ o2, ld_read _ _ _ e1 _ o2, ld_read _ _ _ e2 _ o2, ld_read _ _ _ e3 _ o2]; rw [k1_pay1_eq]
  · iexists f6; isplitr; · ipureintro; exact e6
    iexact H6

theorem body2_first (i : grid2.Coords) (hi : (i 0).val = 0) (M1 : Memref sig .tc .vmem S32x4096 .f32) (h1 : M1.IsWhole) (M2 : Memref sig .tc .vmem S512x4096 .f32) (h2 : M2.IsWhole)
    (M3 : Memref sig .tc .vmem S1x512 .f32) (h3 : M3.IsWhole) (M4 : Memref sig .tc .smem S4 .f32) (h4 : M4.IsWhole) (M5 : Memref sig .tc .vmem S32x512 .f32) (h5 : M5.IsWhole)
    (M6 : Memref sig .tc .vmem S512x4096 .f32) (h6 : M6.IsWhole)
    (X1 : S32x4096.Idx → Elt F .f32) (X2 : S512x4096.Idx → Elt F .f32) (X3 : S1x512.Idx → Elt F .f32) (X4 : S4.Idx → Elt F .f32) (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4
        ∗ (∃ d, owns (c : Thread nD τ) M5 fullShare d) ∗ (∃ d, owns (c : Thread nD τ) M6 fullShare d)
        ∗ (iprop(owns (c : Thread nD τ) M1 fullShare X1 ∗ owns (c : Thread nD τ) M2 fullShare X2 ∗ owns (c : Thread nD τ) M3 fullShare X3 ∗ owns (c : Thread nD τ) M4 fullShare X4
            ∗ owns (c : Thread nD τ) M5 fullShare (k2_pay1 X1 X2 X3) ∗ owns (c : Thread nD τ) M6 fullShare (fullW X1 X2 X3 X4)) -∗ Q ⟨⟩))
      ⊢ wp frame (wpE (defs₀ (F := F)) 𝒱₀ (c : Thread nD τ) none) E (cc2__full_body i M1 h1 M2 h2 M3 h3 M4 h4 M5 h5 M6 h6) Q := by
  rw [cc2__full_body_eq_skeleton]; unfold cc2__full_body_skel
  unfold owns
  have hc := (cond_zero i).mpr hi
  iintro ⟨⟨%f1, %e1, H1⟩, ⟨%f2, %e2, H2⟩, ⟨%f3, %e3, H3⟩, ⟨%f4, %e4, H4⟩, ⟨%d5, %f5, -, H5⟩, ⟨%d6, %f6, -, H6⟩, Hk⟩
  sl_exec (disch := sl_exact hc)
  rw [wp_ret]; imodintro
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]
  · iexists _; isplitr; swap; · iexact H5
    ipureintro
    rw [read_one _ _ _ o2, ld_read _ _ _ e1 _ o2, ld_read _ _ _ e2 _ o2, ld_read _ _ _ e3 _ o2]
  · iexists _; isplitr; swap; · iexact H6
    ipureintro
    rw [read_two _ _ _ o2, ld_read _ _ _ e1 _ o2, ld_read _ _ _ e2 _ o2, ld_read _ _ _ e3 _ o2]
    delta body2_first.sl.r body2_first.sl.r_1 body2_first.sl.r_2 body2_first.sl.r_3
    rw [mp_read _ _ _ e4 0 _ rfl, mp_read _ _ _ e4 1 _ rfl, mp_read _ _ _ e4 2 _ rfl, mp_read _ _ _ e4 3 _ rfl, View.readAt_eq_ld, e1]
    rfl

theorem body2_later (i : grid2.Coords) (hi : ¬ (i 0).val = 0) (M1 : Memref sig .tc .vmem S32x4096 .f32) (h1 : M1.IsWhole) (M2 : Memref sig .tc .vmem S512x4096 .f32) (h2 : M2.IsWhole)
    (M3 : Memref sig .tc .vmem S1x512 .f32) (h3 : M3.IsWhole) (M4 : Memref sig .tc .smem S4 .f32) (h4 : M4.IsWhole) (M5 : Memref sig .tc .vmem S32x512 .f32) (h5 : M5.IsWhole)
    (M6 : Memref sig .tc .vmem S512x4096 .f32) (h6 : M6.IsWhole)
    (X1 : S32x4096.Idx → Elt F .f32) (X2 : S512x4096.Idx → Elt F .f32) (X3 : S1x512.Idx → Elt F .f32) (X4 : S4.Idx → Elt F .f32) (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4
        ∗ (∃ d, owns (c : Thread nD τ) M5 fullShare d) ∗ (∃ d, owns (c : Thread nD τ) M6 fullShare d)
        ∗ (iprop(owns (c : Thread nD τ) M1 fullShare X1 ∗ owns (c : Thread nD τ) M2 fullShare X2 ∗ owns (c : Thread nD τ) M3 fullShare X3 ∗ owns (c : Thread nD τ) M4 fullShare X4
            ∗ owns (c : Thread nD τ) M5 fullShare (k2_pay1 X1 X2 X3) ∗ owns (c : Thread nD τ) M6 fullShare (X2)) -∗ Q ⟨⟩))
      ⊢ wp frame (wpE (defs₀ (F := F)) 𝒱₀ (c : Thread nD τ) none) E (cc2__full_body i M1 h1 M2 h2 M3 h3 M4 h4 M5 h5 M6 h6) Q := by
  rw [cc2__full_body_eq_skeleton]; unfold cc2__full_body_skel
  unfold owns
  have hc := fun h => hi ((cond_zero i).mp h)
  iintro ⟨⟨%f1, %e1, H1⟩, ⟨%f2, %e2, H2⟩, ⟨%f3, %e3, H3⟩, ⟨%f4, %e4, H4⟩, ⟨%d5, %f5, -, H5⟩, ⟨%d6, %f6, -, H6⟩, Hk⟩
  sl_exec (disch := sl_exact hc)
  rw [wp_ret]; imodintro
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]
  · iexists _; isplitr; swap; · iexact H5
    ipureintro
    rw [read_one _ _ _ o2, ld_read _ _ _ e1 _ o2, ld_read _ _ _ e2 _ o2, ld_read _ _ _ e3 _ o2]
  · iexists _; isplitr; swap; · iexact H6
    ipureintro
    rw [read_one _ _ _ o2, ld_read _ _ _ e2 _ o2]

theorem body3_first (i : grid3.Coords) (hi : (i 0).val = 0) (M1 : Memref sig .tc .vmem S32x4096 .f32) (h1 : M1.IsWhole) (M2 : Memref sig .tc .vmem S512x4096 .f32) (h2 : M2.IsWhole)
    (M3 : Memref sig .tc .vmem S1x512 .f32) (h3 : M3.IsWhole) (M4 : Memref sig .tc .smem S4 .f32) (h4 : M4.IsWhole) (M5 : Memref sig .tc .vmem S32x512 .f32) (h5 : M5.IsWhole)
    (M6 : Memref sig .tc .vmem S512x4096 .f32) (h6 : M6.IsWhole)
    (X1 : S32x4096.Idx → Elt F .f32) (X2 : S512x4096.Idx → Elt F .f32) (X3 : S1x512.Idx → Elt F .f32) (X4 : S4.Idx → Elt F .f32) (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4
        ∗ (∃ d, owns (c : Thread nD τ) M5 fullShare d) ∗ (∃ d, owns (c : Thread nD τ) M6 fullShare d)
        ∗ (iprop(owns (c : Thread nD τ) M1 fullShare X1 ∗ owns (c : Thread nD τ) M2 fullShare X2 ∗ owns (c : Thread nD τ) M3 fullShare X3 ∗ owns (c : Thread nD τ) M4 fullShare X4
            ∗ owns (c : Thread nD τ) M5 fullShare (k2_pay1 X1 X2 X3) ∗ owns (c : Thread nD τ) M6 fullShare (fullW X1 X2 X3 X4)) -∗ Q ⟨⟩))
      ⊢ wp frame (wpE (defs₀ (F := F)) 𝒱₀ (c : Thread nD τ) none) E (cc3__full_body i M1 h1 M2 h2 M3 h3 M4 h4 M5 h5 M6 h6) Q := by
  rw [cc3__full_body_eq_skeleton]; unfold cc3__full_body_skel
  unfold owns
  have hc := (cond_zero i).mpr hi
  iintro ⟨⟨%f1, %e1, H1⟩, ⟨%f2, %e2, H2⟩, ⟨%f3, %e3, H3⟩, ⟨%f4, %e4, H4⟩, ⟨%d5, %f5, -, H5⟩, ⟨%d6, %f6, -, H6⟩, Hk⟩
  sl_exec (disch := sl_exact hc)
  rw [wp_ret]; imodintro
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]
  · iexists _; isplitr; swap; · iexact H5
    ipureintro
    rw [read_one _ _ _ o2, ld_read _ _ _ e1 _ o2, ld_read _ _ _ e2 _ o2, ld_read _ _ _ e3 _ o2]; rw [k3_pay1_eq]
  · iexists _; isplitr; swap; · iexact H6
    ipureintro
    rw [read_two _ _ _ o2, ld_read _ _ _ e1 _ o2, ld_read _ _ _ e2 _ o2, ld_read _ _ _ e3 _ o2]
    delta body3_first.sl.r body3_first.sl.r_1 body3_first.sl.r_2 body3_first.sl.r_3
    rw [mp_read _ _ _ e4 0 _ rfl, mp_read _ _ _ e4 1 _ rfl, mp_read _ _ _ e4 2 _ rfl, mp_read _ _ _ e4 3 _ rfl, View.readAt_eq_ld, e1]
    rw [k3_pay2_eq]; rfl

theorem body3_later (i : grid3.Coords) (hi : ¬ (i 0).val = 0) (M1 : Memref sig .tc .vmem S32x4096 .f32) (h1 : M1.IsWhole) (M2 : Memref sig .tc .vmem S512x4096 .f32) (h2 : M2.IsWhole)
    (M3 : Memref sig .tc .vmem S1x512 .f32) (h3 : M3.IsWhole) (M4 : Memref sig .tc .smem S4 .f32) (h4 : M4.IsWhole) (M5 : Memref sig .tc .vmem S32x512 .f32) (h5 : M5.IsWhole)
    (M6 : Memref sig .tc .vmem S512x4096 .f32) (h6 : M6.IsWhole)
    (X1 : S32x4096.Idx → Elt F .f32) (X2 : S512x4096.Idx → Elt F .f32) (X3 : S1x512.Idx → Elt F .f32) (X4 : S4.Idx → Elt F .f32) (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4
        ∗ (∃ d, owns (c : Thread nD τ) M5 fullShare d) ∗ (∃ d, owns (c : Thread nD τ) M6 fullShare d)
        ∗ (iprop(owns (c : Thread nD τ) M1 fullShare X1 ∗ owns (c : Thread nD τ) M2 fullShare X2 ∗ owns (c : Thread nD τ) M3 fullShare X3 ∗ owns (c : Thread nD τ) M4 fullShare X4
            ∗ owns (c : Thread nD τ) M5 fullShare (k2_pay1 X1 X2 X3) ∗ owns (c : Thread nD τ) M6 fullShare (X2)) -∗ Q ⟨⟩))
      ⊢ wp frame (wpE (defs₀ (F := F)) 𝒱₀ (c : Thread nD τ) none) E (cc3__full_body i M1 h1 M2 h2 M3 h3 M4 h4 M5 h5 M6 h6) Q := by
  rw [cc3__full_body_eq_skeleton]; unfold cc3__full_body_skel
  unfold owns
  have hc := fun h => hi ((cond_zero i).mp h)
  iintro ⟨⟨%f1, %e1, H1⟩, ⟨%f2, %e2, H2⟩, ⟨%f3, %e3, H3⟩, ⟨%f4, %e4, H4⟩, ⟨%d5, %f5, -, H5⟩, ⟨%d6, %f6, -, H6⟩, Hk⟩
  sl_exec (disch := sl_exact hc)
  rw [wp_ret]; imodintro
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]
  · iexists _; isplitr; swap; · iexact H5
    ipureintro
    rw [read_one _ _ _ o2, ld_read _ _ _ e1 _ o2, ld_read _ _ _ e2 _ o2, ld_read _ _ _ e3 _ o2]; rw [k3_pay1_eq]
  · iexists _; isplitr; swap; · iexact H6
    ipureintro
    rw [read_one _ _ _ o2, ld_read _ _ _ e2 _ o2]

end Cert.Proof.Tile
-- ==== Proof.Regions.lean ====
/-
  What the three TensorCore pipelines share: the pipelines' part of the resource algebra, and proof data for a pipeline that is not the one run.
-/
module

public import proofs.«01_k».proof.Proof.Bodies
public import Idealize.ShloMosaic.Lib.Pipeline.RegionsLoop

@[expose] public section

noncomputable section

namespace Cert.Proof.Tile

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- The pipelines' unique admissible tables (none is prefetched). -/
abbrev adm : (p : Fin 3) → (pcfgs (F := F) p).Adm := fun p => (cfgs p).toPCfg_adm

/-- The buffers' contents on each core. -/
abbrev Val' (F : FTy → Type) : Type := (c : Dev nD) → (b : Ref sig .tc) → Buf (Elt F) ((c : Thread nD τ).loc b)

/-- The pairs a core's waits may have recorded by the end of the SparseCore call. -/
def below (c : Dev nD) : Set (SemLoc sig × HIx 1) := {p | (K (F := F)).lev ((c : Thread nD τ), p.1) p.2 ≤ 8}

/-- Proof data of a pipeline that is not the one run. -/
def junkDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-- The core's waits so far, with nothing owed. -/
def waited (c : Dev nD) : sProp 𝕄 :=
  iprop(∃ W : Waits sig (HIx 1), ⌜∀ p ∈ W, p ∈ below (F := F) c⌝ ∗ owes (c : Thread nD τ) (0 : CellTallies nD τ sig (HIx 1)) W)

end Cert.Proof.Tile

end
-- ==== Proof.Region1.lean ====
/-
  The first TensorCore pipeline: its proof data over any contents of the buffers, its body obligation, and its region.
-/
module

public import proofs.«01_k».proof.Proof.Regions

@[expose] public section

noncomputable section

namespace Cert.Proof.Tile

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

variable (V : Val' F)

/-- The operands' blocks at point `t`, of the arrays' contents at entry. -/
abbrev blk1_0 (c : Dev nD) (t : Fin cfg1.N) : S32x4096.Idx → Elt F .f32 :=
  ((cfg1.win 0).blk t).view.read (Elt F) (V c (Pipeline.arrRef spec1 0))
abbrev blk1_1 (c : Dev nD) (t : Fin cfg1.N) : S512x4096.Idx → Elt F .f32 :=
  ((cfg1.win 1).blk t).view.read (Elt F) (V c (Pipeline.arrRef spec1 1))
abbrev blk1_2 (c : Dev nD) (t : Fin cfg1.N) : S1x512.Idx → Elt F .f32 :=
  ((cfg1.win 2).blk t).view.read (Elt F) (V c (Pipeline.arrRef spec1 2))
abbrev blk1_3 (c : Dev nD) (t : Fin cfg1.N) : S4.Idx → Elt F .f32 :=
  ((cfg1.win 3).blk t).view.read (Elt F) (V c (Pipeline.arrRef spec1 3))

/-- The stripe the first point leaves. -/
def stripe1 (c : Dev nD) : S32x4096.Idx → Elt F .f32 := stripeW (blk1_0 V c t1_0) (blk1_1 V c t1_0) (blk1_2 V c t1_0) (blk1_3 V c t1_0)

/-- The proof data: the operands keep their blocks; the product block is what the body leaves, the patched stripe what it leaves at the first point. -/
def dat1 (c : Dev nD) : Dat τ (Elt F) (HIx 1) ℕ UU ℕ cfg1 c where
  A w := V c (Pipeline.arrRef spec1 w)
  after w t := match w with
    | ⟨0, _⟩ => blk1_0 V c t
    | ⟨1, _⟩ => blk1_1 V c t
    | ⟨2, _⟩ => blk1_2 V c t
    | ⟨3, _⟩ => blk1_3 V c t
    | ⟨4, _⟩ => k2_pay1 (blk1_0 V c t) (blk1_1 V c t) (blk1_2 V c t)
    | ⟨5, _⟩ => stripe1 V c
  Φ _ := Pipeline.scopedRest (Ix := HIx 1) (Name := ℕ) (U := UU) (Lvl := ℕ) (Val := Elt F) spec1 c
  q _ := fullShare
  owed _ := 0
  recorded _ := below (F := F) c

theorem before1_0 (c : Dev nD) (t : Fin cfg1.N) (d) : (dat1 V c).before 0 t d = blk1_0 V c t :=
  (dat1 V c).before_in_eq_fetched 0 rfl (fun _ => rfl) (fun _ _ _ => rfl) (fun _ => rfl) t d
theorem before1_1 (c : Dev nD) (t : Fin cfg1.N) (d) : (dat1 V c).before 1 t d = blk1_1 V c t :=
  (dat1 V c).before_in_eq_fetched 1 rfl (fun _ => rfl) (fun _ _ _ => rfl) (fun _ => rfl) t d
theorem before1_2 (c : Dev nD) (t : Fin cfg1.N) (d) : (dat1 V c).before 2 t d = blk1_2 V c t :=
  (dat1 V c).before_in_eq_fetched 2 rfl (fun _ => rfl) (fun _ _ _ => rfl) (fun _ => rfl) t d
theorem before1_3 (c : Dev nD) (t : Fin cfg1.N) (d) : (dat1 V c).before 3 t d = blk1_3 V c t :=
  (dat1 V c).before_in_eq_fetched 3 rfl (fun _ => rfl) (fun _ _ _ => rfl) (fun _ => rfl) t d

theorem after1_4 (c : Dev nD) (t : Fin cfg1.N) : (dat1 V c).after 4 t = k2_pay1 (blk1_0 V c t) (blk1_1 V c t) (blk1_2 V c t) := by dsimp only [dat1]
theorem after1_5 (c : Dev nD) (t : Fin cfg1.N) : (dat1 V c).after 5 t = stripe1 V c := by dsimp only [dat1]
theorem after1_5_first (c : Dev nD) (t : Fin cfg1.N) (h : t.val = 0) :
    (dat1 V c).after 5 t = stripeW (blk1_0 V c t) (blk1_1 V c t) (blk1_2 V c t) (blk1_3 V c t) := by
  obtain rfl : t = t1_0 := Fin.ext h
  exact after1_5 V c _

theorem coord1 : ∀ t : Fin grid1.N, (grid1.coords t 0).val = t.val := by decide

/-- The body leaves the stripe's buffer alone after the first point. -/
theorem idle1_first (t : Fin cfg1.N) (h : t.val = 0) : cfg1.idle 5 (cfg1.grid.coords t) = false := by
  obtain rfl : t = t1_0 := Fin.ext h
  decide
theorem idle1_later (t : Fin cfg1.N) (h : ¬ t.val = 0) : cfg1.idle 5 (cfg1.grid.coords t) = true := by
  show (!(k1_cond1 (grid1.coords t) == 1#1)) = true
  rw [Bool.not_eq_true', beq_eq_false_iff_ne]
  exact fun hc => h ((coord1 t).symm.trans ((cond_zero1 _).mp hc))

theorem flush1_not (t : Fin cfg1.N) (h : t.val < 7) : (cfg1.win 5).flush t = false := by
  rw [← Bool.not_eq_true]
  intro hf
  have := (flush1_5 t).mp hf
  omega

/-- After the first point the stripe's buffer still holds what the first point left. -/
theorem before1_5 (c : Dev nD) : ∀ (n : ℕ) (t : Fin cfg1.N) (hn : t.val = n + 1) (d), (dat1 V c).before 5 t d = stripe1 V c := by
  intro n
  induction n with
  | zero =>
    intro t hn d
    have hN : t.val < 8 := t.isLt
    rw [(dat1 V c).before_of_pos 5 t (by omega) rfl d, flush1_not _ (show t.val - 1 < 7 by omega), if_neg Bool.false_ne_true]
    unfold Dat.left
    rw [idle1_first _ (show t.val - 1 = 0 by omega)]
    exact after1_5 V c _
  | succ n ih =>
    intro t hn d
    have hN : t.val < 8 := t.isLt
    rw [(dat1 V c).before_of_pos 5 t (by omega) rfl d, flush1_not _ (show t.val - 1 < 7 by omega), if_neg Bool.false_ne_true]
    unfold Dat.left
    rw [idle1_later _ (show ¬ t.val - 1 = 0 by omega)]
    exact ih _ (show t.val - 1 = n + 1 by omega) d

theorem body_obligation1 (c : Dev nD) : BodyObligation (dat1 V c) (defs₀ (F := F)) 𝒱₀ none Set.univ := fun t => by
  rw [bigSep_W1, bigSep_W1]
  have e : (defs₀ (F := F)) .tc cfg1.body (cfg1.bodyArgs t (cfg1.slots t)) = bodyAt1 t := rfl
  rw [e, show (dat1 V c).Φ t.castSucc = (dat1 V c).Φ t.succ from rfl,
    show (dat1 V c).owesAt none t.succ = (dat1 V c).owesAt none t.castSucc from rfl]
  iintro ⟨HΦ, Howes, ⟨%d0, H0⟩, ⟨%d1, H1⟩, ⟨%d2, H2⟩, ⟨%d3, H3⟩, ⟨%d4, H4⟩, ⟨%d5, H5⟩⟩
  rw [before1_0, before1_1, before1_2, before1_3]
  by_cases h : t.val = 0
  · iapply (body1_first c (grid1.coords t) ((coord1 t).trans h) _ _ _ _ _ _ _ _ _ _ _ _ (blk1_0 V c t) (blk1_1 V c t) (blk1_2 V c t) (blk1_3 V c t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Howes]; · iexact Howes
    isplitl [H0]; · iexact H0
    isplitl [H1]; · iexact H1
    isplitl [H2]; · iexact H2
    isplitl [H3]; · iexact H3
    isplitl [H4]
    · rw [after1_4]; iexact H4
    · rw [idle1_first t h, after1_5_first V c t h]; iexact H5
  · iapply (body1_later c (grid1.coords t) (fun h' => h ((coord1 t).symm.trans h')) _ _ _ _ _ _ _ _ _ _ _ _ (blk1_0 V c t) (blk1_1 V c t) (blk1_2 V c t) (blk1_3 V c t) (stripe1 V c) Set.univ _)
    isplitl [H0]; · iexact H0
    isplitl [H1]; · iexact H1
    isplitl [H2]; · iexact H2
    isplitl [H3]; · iexact H3
    isplitl [H4]; · iexists _; iexact H4
    isplitl [H5]; · rw [before1_5 V c (t.val - 1) t (by omega)]; iexact H5
    iintro ⟨H0, H1, H2, H3, H4, H5⟩
    isplitl [HΦ]; · iexact HΦ
    isplitl [Howes]; · iexact Howes
    isplitl [H0]; · iexact H0
    isplitl [H1]; · iexact H1
    isplitl [H2]; · iexact H2
    isplitl [H3]; · iexact H3
    isplitl [H4]
    · rw [after1_4]; iexact H4
    · rw [idle1_later t h]
      by_cases hf : (cfg1.win 5).flush t = true
      · rw [hf, after1_5]; iexact H5
      · rw [Bool.not_eq_true] at hf
        rw [hf]
        iexists d5
        rw [before1_5 V c (t.val - 1) t (by omega)]; iexact H5

/-- The proof data at this pipeline, anything elsewhere. -/
def pdats1 : (p : Fin 3) → (c : Dev nD) → Dat τ (Elt F) (HIx 1) ℕ UU ℕ (Pipeline.pin (pcfgs (F := F)) adm p) c
  | ⟨0, _⟩ => fun c => dat1 V c
  | ⟨1, _⟩ => fun c => junkDat c
  | ⟨2, _⟩ => fun c => junkDat c

/-- What the pipeline leaves in its two result arrays. -/
def out1_4 (c : Dev nD) : Buf (Elt F) ((c : Thread nD τ).loc main_v4_0) := (dat1 V c).arrAt 4 cfg1.N
def out1_5 (c : Dev nD) : Buf (Elt F) ((c : Thread nD τ).loc main_v4_1) := (dat1 V c).arrAt 5 cfg1.N

variable (Vp : Val' F)

set_option backward.isDefEq.respectTransparency.types false in
/-- The region, entered with every unscoped buffer at `V` and left with the two result arrays at what the pipeline computes. -/
def reg1 (h4 : ∀ c, Vp c main_v4_0 = out1_4 V c) (h5 : ∀ c, Vp c main_v4_1 = out1_5 V c)
    (hne : ∀ c (b : Ref sig .tc), b ≠ main_v4_0 → b ≠ main_v4_1 → Vp c b = V c b) :
    Pipeline.RegionSeg (pcfgs (F := F)) adm (pdats1 V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation1 V c).loose
  hwaits := Pipeline.hwaits_of_owed_zero _ _ _ _ (K (F := F)).L (K (F := F)).lev 0 fun _ _ => rfl
  pre c := iprop(unscopedBufs c (V c) ∗ waited (F := F) c)
  post c := iprop(unscopedBufs c (Vp c) ∗ waited (F := F) c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats1 V) launch1.win launch1.arr_whole c
      ((pdats1 V 0 c).share_full fun _ => rfl) (V c) fun _ => rfl
    unfold waited
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats1 V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats1 V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats1 V) ((pdats1 V 0 c).share_full fun _ => rfl) (V c) (Vp c) ((pdats1 V 0 c).arrAt · cfg1.N)
      (fun w => by
        fin_cases w
        · exact ((pdats1 V 0 c).arrAt_in 0 rfl _).trans (hne c main_arg0 (by decide) (by decide)).symm
        · exact ((pdats1 V 0 c).arrAt_in 1 rfl _).trans (hne c main_arg1 (by decide) (by decide)).symm
        · exact ((pdats1 V 0 c).arrAt_in 2 rfl _).trans (hne c main_v3 (by decide) (by decide)).symm
        · exact ((pdats1 V 0 c).arrAt_in 3 rfl _).trans (hne c main_v1 (by decide) (by decide)).symm
        · exact (h4 c).symm
        · exact (h5 c).symm)
      (fun b hb => hne c b (fun h => hb (h ▸ Finset.mem_image.mpr ⟨4, Finset.mem_univ _, rfl⟩)) (fun h => hb (h ▸ Finset.mem_image.mpr ⟨5, Finset.mem_univ _, rfl⟩)))
    iintro ⟨Ha, HO, -, Hrest⟩
    imodintro
    isplitl [Ha Hrest]
    · iapply hjoin; isplitl [Ha] <;> iassumption
    unfold Pipeline.Dat.owesAt Pipeline.owesWithin waited
    icases HO with ⟨%W, %hW, HO⟩; iexists W; isplitr; swap; · iexact HO
    ipureintro
    intro p hp
    rcases hW hp with h | h
    · exact h
    · obtain ⟨w, s, rfl⟩ := h
      exact Nat.zero_le 8

end Cert.Proof.Tile

end
-- ==== Proof.Region2.lean ====
/-
  The second TensorCore pipeline: its proof data over any contents of the buffers, its body obligation, and its region.
-/
module

public import proofs.«01_k».proof.Proof.Regions

@[expose] public section

noncomputable section

namespace Cert.Proof.Tile

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

variable (V : Val' F)

/-- The operands' blocks at point `t`, of the arrays' contents at entry. -/
abbrev blk2_0 (c : Dev nD) (t : Fin cfg2.N) : S32x4096.Idx → Elt F .f32 :=
  ((cfg2.win 0).blk t).view.read (Elt F) (V c (Pipeline.arrRef spec2 0))
abbrev blk2_1 (c : Dev nD) (t : Fin cfg2.N) : S512x4096.Idx → Elt F .f32 :=
  ((cfg2.win 1).blk t).view.read (Elt F) (V c (Pipeline.arrRef spec2 1))
abbrev blk2_2 (c : Dev nD) (t : Fin cfg2.N) : S1x512.Idx → Elt F .f32 :=
  ((cfg2.win 2).blk t).view.read (Elt F) (V c (Pipeline.arrRef spec2 2))
abbrev blk2_3 (c : Dev nD) (t : Fin cfg2.N) : S4.Idx → Elt F .f32 :=
  ((cfg2.win 3).blk t).view.read (Elt F) (V c (Pipeline.arrRef spec2 3))

/-- The proof data: the operands keep their blocks; the product block and the patched weight block are what the body leaves. -/
def dat2 (c : Dev nD) : Dat τ (Elt F) (HIx 1) ℕ UU ℕ cfg2 c where
  A w := V c (Pipeline.arrRef spec2 w)
  after w t := match w with
    | ⟨0, _⟩ => blk2_0 V c t
    | ⟨1, _⟩ => blk2_1 V c t
    | ⟨2, _⟩ => blk2_2 V c t
    | ⟨3, _⟩ => blk2_3 V c t
    | ⟨4, _⟩ => k2_pay1 (blk2_0 V c t) (blk2_1 V c t) (blk2_2 V c t)
    | ⟨5, _⟩ => if t.val = 0 then fullW (blk2_0 V c t) (blk2_1 V c t) (blk2_2 V c t) (blk2_3 V c t) else blk2_1 V c t
  Φ _ := Pipeline.scopedRest (Ix := HIx 1) (Name := ℕ) (U := UU) (Lvl := ℕ) (Val := Elt F) spec2 c
  q _ := fullShare
  owed _ := 0
  recorded _ := below (F := F) c

theorem before2_0 (c : Dev nD) (t : Fin cfg2.N) (d) : (dat2 V c).before 0 t d = blk2_0 V c t :=
  (dat2 V c).before_in_eq_fetched 0 rfl (fun _ => rfl) (fun _ _ _ => rfl) (fun _ => rfl) t d
theorem before2_1 (c : Dev nD) (t : Fin cfg2.N) (d) : (dat2 V c).before 1 t d = blk2_1 V c t :=
  (dat2 V c).before_in_eq_fetched 1 rfl (fun _ => rfl) (fun _ _ _ => rfl) (fun _ => rfl) t d
theorem before2_2 (c : Dev nD) (t : Fin cfg2.N) (d) : (dat2 V c).before 2 t d = blk2_2 V c t :=
  (dat2 V c).before_in_eq_fetched 2 rfl (fun _ => rfl) (fun _ _ _ => rfl) (fun _ => rfl) t d
theorem before2_3 (c : Dev nD) (t : Fin cfg2.N) (d) : (dat2 V c).before 3 t d = blk2_3 V c t :=
  (dat2 V c).before_in_eq_fetched 3 rfl (fun _ => rfl) (fun _ _ _ => rfl) (fun _ => rfl) t d

theorem after2_4 (c : Dev nD) (t : Fin cfg2.N) : (dat2 V c).after 4 t = k2_pay1 (blk2_0 V c t) (blk2_1 V c t) (blk2_2 V c t) := by dsimp only [dat2]
theorem after2_5_first (c : Dev nD) (t : Fin cfg2.N) (h : t.val = 0) :
    (dat2 V c).after 5 t = fullW (blk2_0 V c t) (blk2_1 V c t) (blk2_2 V c t) (blk2_3 V c t) := by dsimp only [dat2]; rw [if_pos h]
theorem after2_5_later (c : Dev nD) (t : Fin cfg2.N) (h : ¬ t.val = 0) : (dat2 V c).after 5 t = blk2_1 V c t := by dsimp only [dat2]; rw [if_neg h]

theorem coord2 : ∀ t : Fin grid2.N, (grid2.coords t 0).val = t.val := by decide

theorem body_obligation2 (c : Dev nD) : BodyObligation (dat2 V c) (defs₀ (F := F)) 𝒱₀ none Set.univ := fun t => by
  rw [bigSep_W2, bigSep_W2]
  have e : (defs₀ (F := F)) .tc cfg2.body (cfg2.bodyArgs t (cfg2.slots t)) = bodyAt2 t := rfl
  rw [e, show (dat2 V c).Φ t.castSucc = (dat2 V c).Φ t.succ from rfl,
    show (dat2 V c).owesAt none t.succ = (dat2 V c).owesAt none t.castSucc from rfl]
  iintro ⟨HΦ, Howes, ⟨%d0, H0⟩, ⟨%d1, H1⟩, ⟨%d2, H2⟩, ⟨%d3, H3⟩, ⟨%d4, H4⟩, ⟨%d5, H5⟩⟩
  rw [before2_0, before2_1, before2_2, before2_3]
  by_cases h : t.val = 0
  · iapply (body2_first c (grid2.coords t) ((coord2 t).trans h) _ _ _ _ _ _ _ _ _ _ _ _ (blk2_0 V c t) (blk2_1 V c t) (blk2_2 V c t) (blk2_3 V c t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Howes]; · iexact Howes
    isplitl [H0]; · iexact H0
    isplitl [H1]; · iexact H1
    isplitl [H2]; · iexact H2
    isplitl [H3]; · iexact H3
    isplitl [H4]
    · rw [after2_4]; iexact H4
    · rw [after2_5_first V c t h]; iexact H5
  · iapply (body2_later c (grid2.coords t) (fun h' => h ((coord2 t).symm.trans h')) _ _ _ _ _ _ _ _ _ _ _ _ (blk2_0 V c t) (blk2_1 V c t) (blk2_2 V c t) (blk2_3 V c t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Howes]; · iexact Howes
    isplitl [H0]; · iexact H0
    isplitl [H1]; · iexact H1
    isplitl [H2]; · iexact H2
    isplitl [H3]; · iexact H3
    isplitl [H4]
    · rw [after2_4]; iexact H4
    · rw [after2_5_later V c t h]; iexact H5

/-- The proof data at this pipeline, anything elsewhere. -/
def pdats2 : (p : Fin 3) → (c : Dev nD) → Dat τ (Elt F) (HIx 1) ℕ UU ℕ (Pipeline.pin (pcfgs (F := F)) adm p) c
  | ⟨0, _⟩ => fun c => junkDat c
  | ⟨1, _⟩ => fun c => dat2 V c
  | ⟨2, _⟩ => fun c => junkDat c

/-- What the pipeline leaves in its two result arrays. -/
def out2_4 (c : Dev nD) : Buf (Elt F) ((c : Thread nD τ).loc main_v6_0) := (dat2 V c).arrAt 4 cfg2.N
def out2_5 (c : Dev nD) : Buf (Elt F) ((c : Thread nD τ).loc main_v6_1) := (dat2 V c).arrAt 5 cfg2.N

variable (Vp : Val' F)

set_option backward.isDefEq.respectTransparency.types false in
/-- The region, entered with every unscoped buffer at `V` and left with the two result arrays at what the pipeline computes. -/
def reg2 (h4 : ∀ c, Vp c main_v6_0 = out2_4 V c) (h5 : ∀ c, Vp c main_v6_1 = out2_5 V c)
    (hne : ∀ c (b : Ref sig .tc), b ≠ main_v6_0 → b ≠ main_v6_1 → Vp c b = V c b) :
    Pipeline.RegionSeg (pcfgs (F := F)) adm (pdats2 V) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 V c).loose
  hwaits := Pipeline.hwaits_of_owed_zero _ _ _ _ (K (F := F)).L (K (F := F)).lev 1 fun _ _ => rfl
  pre c := iprop(unscopedBufs c (V c) ∗ waited (F := F) c)
  post c := iprop(unscopedBufs c (Vp c) ∗ waited (F := F) c)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats2 V) launch2.win launch2.arr_whole c
      ((pdats2 V 1 c).share_full fun _ => rfl) (V c) fun _ => rfl
    unfold waited
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats2 V 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdats2 V 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats2 V) ((pdats2 V 1 c).share_full fun _ => rfl) (V c) (Vp c) ((pdats2 V 1 c).arrAt · cfg2.N)
      (fun w => by
        fin_cases w
        · exact ((pdats2 V 1 c).arrAt_in 0 rfl _).trans (hne c main_v4_0 (by decide) (by decide)).symm
        · exact ((pdats2 V 1 c).arrAt_in 1 rfl _).trans (hne c main_arg3 (by decide) (by decide)).symm
        · exact ((pdats2 V 1 c).arrAt_in 2 rfl _).trans (hne c main_v5 (by decide) (by decide)).symm
        · exact ((pdats2 V 1 c).arrAt_in 3 rfl _).trans (hne c main_v1 (by decide) (by decide)).symm
        · exact (h4 c).symm
        · exact (h5 c).symm)
      (fun b hb => hne c b (fun h => hb (h ▸ Finset.mem_image.mpr ⟨4, Finset.mem_univ _, rfl⟩)) (fun h => hb (h ▸ Finset.mem_image.mpr ⟨5, Finset.mem_univ _, rfl⟩)))
    iintro ⟨Ha, HO, -, Hrest⟩
    imodintro
    isplitl [Ha Hrest]
    · iapply hjoin; isplitl [Ha] <;> iassumption
    unfold Pipeline.Dat.owesAt Pipeline.owesWithin waited
    icases HO with ⟨%W, %hW, HO⟩; iexists W; isplitr; swap; · iexact HO
    ipureintro
    intro p hp
    rcases hW hp with h | h
    · exact h
    · obtain ⟨w, s, rfl⟩ := h
      exact Nat.zero_le 8

end Cert.Proof.Tile

end
-- ==== Proof.Region3.lean ====
/-
  The third TensorCore pipeline: its proof data over any contents of the buffers, its body obligation, and its region.
-/
module

public import proofs.«01_k».proof.Proof.Regions

@[expose] public section

noncomputable section

namespace Cert.Proof.Tile

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

variable (V : Val' F)

/-- The operands' blocks at point `t`, of the arrays' contents at entry. -/
abbrev blk3_0 (c : Dev nD) (t : Fin cfg3.N) : S32x4096.Idx → Elt F .f32 :=
  ((cfg3.win 0).blk t).view.read (Elt F) (V c (Pipeline.arrRef spec3 0))
abbrev blk3_1 (c : Dev nD) (t : Fin cfg3.N) : S512x4096.Idx → Elt F .f32 :=
  ((cfg3.win 1).blk t).view.read (Elt F) (V c (Pipeline.arrRef spec3 1))
abbrev blk3_2 (c : Dev nD) (t : Fin cfg3.N) : S1x512.Idx → Elt F .f32 :=
  ((cfg3.win 2).blk t).view.read (Elt F) (V c (Pipeline.arrRef spec3 2))
abbrev blk3_3 (c : Dev nD) (t : Fin cfg3.N) : S4.Idx → Elt F .f32 :=
  ((cfg3.win 3).blk t).view.read (Elt F) (V c (Pipeline.arrRef spec3 3))

/-- The proof data: the operands keep their blocks; the product block and the patched weight block are what the body leaves. -/
def dat3 (c : Dev nD) : Dat τ (Elt F) (HIx 1) ℕ UU ℕ cfg3 c where
  A w := V c (Pipeline.arrRef spec3 w)
  after w t := match w with
    | ⟨0, _⟩ => blk3_0 V c t
    | ⟨1, _⟩ => blk3_1 V c t
    | ⟨2, _⟩ => blk3_2 V c t
    | ⟨3, _⟩ => blk3_3 V c t
    | ⟨4, _⟩ => k2_pay1 (blk3_0 V c t) (blk3_1 V c t) (blk3_2 V c t)
    | ⟨5, _⟩ => if t.val = 0 then fullW (blk3_0 V c t) (blk3_1 V c t) (blk3_2 V c t) (blk3_3 V c t) else blk3_1 V c t
  Φ _ := Pipeline.scopedRest (Ix := HIx 1) (Name := ℕ) (U := UU) (Lvl := ℕ) (Val := Elt F) spec3 c
  q _ := fullShare
  owed _ := 0
  recorded _ := below (F := F) c

theorem before3_0 (c : Dev nD) (t : Fin cfg3.N) (d) : (dat3 V c).before 0 t d = blk3_0 V c t :=
  (dat3 V c).before_in_eq_fetched 0 rfl (fun _ => rfl) (fun _ _ _ => rfl) (fun _ => rfl) t d
theorem before3_1 (c : Dev nD) (t : Fin cfg3.N) (d) : (dat3 V c).before 1 t d = blk3_1 V c t :=
  (dat3 V c).before_in_eq_fetched 1 rfl (fun _ => rfl) (fun _ _ _ => rfl) (fun _ => rfl) t d
theorem before3_2 (c : Dev nD) (t : Fin cfg3.N) (d) : (dat3 V c).before 2 t d = blk3_2 V c t :=
  (dat3 V c).before_in_eq_fetched 2 rfl (fun _ => rfl) (fun _ _ _ => rfl) (fun _ => rfl) t d
theorem before3_3 (c : Dev nD) (t : Fin cfg3.N) (d) : (dat3 V c).before 3 t d = blk3_3 V c t :=
  (dat3 V c).before_in_eq_fetched 3 rfl (fun _ => rfl) (fun _ _ _ => rfl) (fun _ => rfl) t d

theorem after3_4 (c : Dev nD) (t : Fin cfg3.N) : (dat3 V c).after 4 t = k2_pay1 (blk3_0 V c t) (blk3_1 V c t) (blk3_2 V c t) := by dsimp only [dat3]
theorem after3_5_first (c : Dev nD) (t : Fin cfg3.N) (h : t.val = 0) :
    (dat3 V c).after 5 t = fullW (blk3_0 V c t) (blk3_1 V c t) (blk3_2 V c t) (blk3_3 V c t) := by dsimp only [dat3]; rw [if_pos h]
theorem after3_5_later (c : Dev nD) (t : Fin cfg3.N) (h : ¬ t.val = 0) : (dat3 V c).after 5 t = blk3_1 V c t := by dsimp only [dat3]; rw [if_neg h]

theorem coord3 : ∀ t : Fin grid3.N, (grid3.coords t 0).val = t.val := by decide

theorem body_obligation3 (c : Dev nD) : BodyObligation (dat3 V c) (defs₀ (F := F)) 𝒱₀ none Set.univ := fun t => by
  rw [bigSep_W3, bigSep_W3]
  have e : (defs₀ (F := F)) .tc cfg3.body (cfg3.bodyArgs t (cfg3.slots t)) = bodyAt3 t := rfl
  rw [e, show (dat3 V c).Φ t.castSucc = (dat3 V c).Φ t.succ from rfl,
    show (dat3 V c).owesAt none t.succ = (dat3 V c).owesAt none t.castSucc from rfl]
  iintro ⟨HΦ, Howes, ⟨%d0, H0⟩, ⟨%d1, H1⟩, ⟨%d2, H2⟩, ⟨%d3, H3⟩, ⟨%d4, H4⟩, ⟨%d5, H5⟩⟩
  rw [before3_0, before3_1, before3_2, before3_3]
  by_cases h : t.val = 0
  · iapply (body3_first c (grid3.coords t) ((coord3 t).trans h) _ _ _ _ _ _ _ _ _ _ _ _ (blk3_0 V c t) (blk3_1 V c t) (blk3_2 V c t) (blk3_3 V c t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Howes]; · iexact Howes
    isplitl [H0]; · iexact H0
    isplitl [H1]; · iexact H1
    isplitl [H2]; · iexact H2
    isplitl [H3]; · iexact H3
    isplitl [H4]
    · rw [after3_4]; iexact H4
    · rw [after3_5_first V c t h]; iexact H5
  · iapply (body3_later c (grid3.coords t) (fun h' => h ((coord3 t).symm.trans h')) _ _ _ _ _ _ _ _ _ _ _ _ (blk3_0 V c t) (blk3_1 V c t) (blk3_2 V c t) (blk3_3 V c t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Howes]; · iexact Howes
    isplitl [H0]; · iexact H0
    isplitl [H1]; · iexact H1
    isplitl [H2]; · iexact H2
    isplitl [H3]; · iexact H3
    isplitl [H4]
    · rw [after3_4]; iexact H4
    · rw [after3_5_later V c t h]; iexact H5

/-- The proof data at this pipeline, anything elsewhere. -/
def pdats3 : (p : Fin 3) → (c : Dev nD) → Dat τ (Elt F) (HIx 1) ℕ UU ℕ (Pipeline.pin (pcfgs (F := F)) adm p) c
  | ⟨0, _⟩ => fun c => junkDat c
  | ⟨1, _⟩ => fun c => junkDat c
  | ⟨2, _⟩ => fun c => dat3 V c

/-- What the pipeline leaves in its two result arrays. -/
def out3_4 (c : Dev nD) : Buf (Elt F) ((c : Thread nD τ).loc main_v8_0) := (dat3 V c).arrAt 4 cfg3.N
def out3_5 (c : Dev nD) : Buf (Elt F) ((c : Thread nD τ).loc main_v8_1) := (dat3 V c).arrAt 5 cfg3.N

variable (Vp : Val' F)

set_option backward.isDefEq.respectTransparency.types false in
/-- The region, entered with every unscoped buffer at `V` and left with the two result arrays at what the pipeline computes. -/
def reg3 (h4 : ∀ c, Vp c main_v8_0 = out3_4 V c) (h5 : ∀ c, Vp c main_v8_1 = out3_5 V c)
    (hne : ∀ c (b : Ref sig .tc), b ≠ main_v8_0 → b ≠ main_v8_1 → Vp c b = V c b) :
    Pipeline.RegionSeg (pcfgs (F := F)) adm (pdats3 V) none defs₀ 𝒱₀ (K (F := F)).L (K (F := F)).lev 2 where
  win := launch3.win.to₀
  block_pos := launch3.block_pos
  stage_whole := launch3.stage_whole
  K := PEmpty
  osem k := k.elim
  ho := Pipeline.OwnSemFacts.none _
  hbody c := (body_obligation3 V c).loose
  hwaits := Pipeline.hwaits_of_owed_zero _ _ _ _ (K (F := F)).L (K (F := F)).lev 2 fun _ _ => rfl
  pre c := iprop(unscopedBufs c (V c) ∗ waited (F := F) c)
  post c := iprop(unscopedBufs c (Vp c) ∗ waited (F := F) c)
  X _ := BI.emp
  Y _ := BI.emp
  Z c := Pipeline.unscopedRest (Ix := HIx 1) (Name := ℕ) (U := UU) (Lvl := ℕ) spec3 c (V c)
  hentry c := by
    rw [Pipeline.ownSems0_none]
    have hsplit := Pipeline.arrays_of_unscopedBufs (p := 2) (pcfgs (F := F)) adm (pdats3 V) launch3.win launch3.arr_whole c
      ((pdats3 V 2 c).share_full fun _ => rfl) (V c) fun _ => rfl
    unfold waited
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats3 V 2 c).Φ 0 = Pipeline.scopedRest (Ix := HIx 1) (Name := ℕ) (U := UU) (Lvl := ℕ) (Val := Elt F) spec3 c from rfl]
    iintro ⟨-, -, Hr⟩; iexact Hr
  hout c := by
    rw [Pipeline.ownSems0_none, show (pdats3 V 2 c).Φ (Fin.last _) = Pipeline.scopedRest (Ix := HIx 1) (Name := ℕ) (U := UU) (Lvl := ℕ) (Val := Elt F) spec3 c from rfl]
    iintro Hr
    isplitr; · iempintro
    isplitr; · iempintro
    iexact Hr
  hexit c := by
    have hjoin := Pipeline.unscopedBufs_of_arrays (p := 2) (pcfgs (F := F)) adm (Ix := HIx 1) (Name := ℕ) (U := UU) (Lvl := ℕ) launch3.win launch3.arr_whole c
      (pdats3 V) ((pdats3 V 2 c).share_full fun _ => rfl) (V c) (Vp c) ((pdats3 V 2 c).arrAt · cfg3.N)
      (fun w => by
        fin_cases w
        · exact ((pdats3 V 2 c).arrAt_in 0 rfl _).trans (hne c main_v6_0 (by decide) (by decide)).symm
        · exact ((pdats3 V 2 c).arrAt_in 1 rfl _).trans (hne c main_arg5 (by decide) (by decide)).symm
        · exact ((pdats3 V 2 c).arrAt_in 2 rfl _).trans (hne c main_v7 (by decide) (by decide)).symm
        · exact ((pdats3 V 2 c).arrAt_in 3 rfl _).trans (hne c main_v1 (by decide) (by decide)).symm
        · exact (h4 c).symm
        · exact (h5 c).symm)
      (fun b hb => hne c b (fun h => hb (h ▸ Finset.mem_image.mpr ⟨4, Finset.mem_univ _, rfl⟩)) (fun h => hb (h ▸ Finset.mem_image.mpr ⟨5, Finset.mem_univ _, rfl⟩)))
    iintro ⟨Ha, HO, -, Hrest⟩
    imodintro
    isplitl [Ha Hrest]
    · iapply hjoin; isplitl [Ha] <;> iassumption
    unfold Pipeline.Dat.owesAt Pipeline.owesWithin waited
    icases HO with ⟨%W, %hW, HO⟩; iexists W; isplitr; swap; · iexact HO
    ipureintro
    intro p hp
    rcases hW hp with h | h
    · exact h
    · obtain ⟨w, s, rfl⟩ := h
      exact Nat.zero_le 8

end Cert.Proof.Tile

end
-- ==== Proof.Main.lean ====
/-
  The whole program: the contents of every buffer after each step of @main, and the run of @main over them.
-/
module

public import proofs.«01_k».proof.Proof.Region1
public import proofs.«01_k».proof.Proof.Region2
public import proofs.«01_k».proof.Proof.Region3
public import Idealize.ShloMosaic.Lib.StableHlo.Run
public import Idealize.ShloMosaic.Lib.SparseCore.Quiescent

@[expose] public section

noncomputable section

namespace Cert.Proof.Tile

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf ucRefs cellsGhost toksInit)

variable {F : FTy → Type} [FloatOps F]

local notation "𝕄" => MT nD τ sig (HIx 1) (Elt F) ℕ UU ℕ

/-! ## The operations of @main and the contents they leave -/

abbrev opA : HloOp τ sig (Elt F) := StableHlo.reshape main_arg7 main_v0 (rfl : (.f32 : EltTy) = .f32) shapeCasts_S1x3_S3
abbrev opB : HloOp τ sig (Elt F) := StableHlo.binary main_v0 main_arg8 main_v1 ((fun a b => concatenate S4 0 [⟨S3, a⟩, ⟨S1, b⟩] concatenates_S3_S1_S4_d0) : (⟨S3, .f32⟩ : BufTy).Contents (Elt F) → (⟨S1, .f32⟩ : BufTy).Contents (Elt F) → (⟨S4, .f32⟩ : BufTy).Contents (Elt F))
abbrev opC : HloOp τ sig (Elt F) := StableHlo.unary main_arg2 main_v3 (broadcastInDim S1x4096 ![1] bcast_S4096_S1x4096_1 : (⟨S4096, .f32⟩ : BufTy).Contents (Elt F) → (⟨S1x4096, .f32⟩ : BufTy).Contents (Elt F))
abbrev opD : HloOp τ sig (Elt F) := StableHlo.unary main_arg4 main_v5 (broadcastInDim S1x4096 ![1] bcast_S4096_S1x4096_1 : (⟨S4096, .f32⟩ : BufTy).Contents (Elt F) → (⟨S1x4096, .f32⟩ : BufTy).Contents (Elt F))
abbrev opE : HloOp τ sig (Elt F) := StableHlo.unary main_arg6 main_v7 (broadcastInDim S1x4096 ![1] bcast_S4096_S1x4096_1 : (⟨S4096, .f32⟩ : BufTy).Contents (Elt F) → (⟨S1x4096, .f32⟩ : BufTy).Contents (Elt F))
abbrev opF : HloOp τ sig (Elt F) := StableHlo.nullary main_c (constantI S_ 32 0#32)
abbrev opG : HloOp τ sig (Elt F) := StableHlo.nullary main_c_0 (constantI S_ 32 0#32)
abbrev opH : HloOp τ sig (Elt F) := StableHlo.binaryIndexed main_v2 main_v4_1 ![main_c, main_c_0] ⟨S_, .i32⟩ main_v9 ((fun x u i => Host.dynamicUpdateSlice x u (fun k => (i k (Shape.Idx.first h_S_)).toInt) updateFits_S4096x4096_S32x4096) : (⟨S4096x4096, .f32⟩ : BufTy).Contents (Elt F) → (⟨S32x4096, .f32⟩ : BufTy).Contents (Elt F) → (Fin 2 → (⟨S_, .i32⟩ : BufTy).Contents (Elt F)) → (⟨S4096x4096, .f32⟩ : BufTy).Contents (Elt F))

variable (m : (ℓ : Loc nD τ sig) → Buf (Elt F) ℓ) (ρ : Dev nD → PrngReg)

/-- The contents of the TensorCores' buffers. -/
abbrev asV (W : Dev nD → Valuation τ sig (Elt F)) : Val' F := fun c b => W c (Proc.devRef .tc b)

/-- At the launch; -/
def W0 (d : Dev nD) : Valuation τ sig (Elt F) := fun b => m (d, b)
/-- after the weights are packed; -/
def W1 (d : Dev nD) : Valuation τ sig (Elt F) := (opB (F := F)).result ((opA (F := F)).result (W0 m d))
/-- after the SparseCore call; -/
def W2 (d : Dev nD) : Valuation τ sig (Elt F) := Function.update (W1 m d) (Proc.devRef .tc main_v2) (asO d (m (xLoc d)))
def W3 (d : Dev nD) : Valuation τ sig (Elt F) := (opC (F := F)).result (W2 m d)
/-- after the first pipeline; -/
def W4 (d : Dev nD) : Valuation τ sig (Elt F) :=
  Function.update (Function.update (W3 m d) (Proc.devRef .tc main_v4_0) (out1_4 (asV (W3 m)) d)) (Proc.devRef .tc main_v4_1) (out1_5 (asV (W3 m)) d)
def W5 (d : Dev nD) : Valuation τ sig (Elt F) := (opD (F := F)).result (W4 m d)
/-- after the second; -/
def W6 (d : Dev nD) : Valuation τ sig (Elt F) :=
  Function.update (Function.update (W5 m d) (Proc.devRef .tc main_v6_0) (out2_4 (asV (W5 m)) d)) (Proc.devRef .tc main_v6_1) (out2_5 (asV (W5 m)) d)
def W7 (d : Dev nD) : Valuation τ sig (Elt F) := (opE (F := F)).result (W6 m d)
/-- after the third; -/
def W8 (d : Dev nD) : Valuation τ sig (Elt F) :=
  Function.update (Function.update (W7 m d) (Proc.devRef .tc main_v8_0) (out3_4 (asV (W7 m)) d)) (Proc.devRef .tc main_v8_1) (out3_5 (asV (W7 m)) d)
/-- at the end. -/
def W9 (d : Dev nD) : Valuation τ sig (Elt F) := (opH (F := F)).result ((opG (F := F)).result ((opF (F := F)).result (W8 m d)))

theorem ne_ref {a b : Ref sig .tc} (h : a ≠ b) : (Proc.devRef .tc a : DevRef τ sig) ≠ Proc.devRef .tc b := fun e => h (Proc.devRef_injective _ e)

/-- Two buffers updated. -/
theorem upd2_fst (W : Valuation τ sig (Elt F)) (a b : Ref sig .tc) (h : a ≠ b) (x y) :
    Function.update (Function.update W (Proc.devRef .tc a) x) (Proc.devRef .tc b) y (Proc.devRef .tc a) = x := by
  rw [Function.update_of_ne (ne_ref h), Function.update_self]
theorem upd2_snd (W : Valuation τ sig (Elt F)) (a b : Ref sig .tc) (x y) :
    Function.update (Function.update W (Proc.devRef .tc a) x) (Proc.devRef .tc b) y (Proc.devRef .tc b) = y := Function.update_self ..
theorem upd2_ne (W : Valuation τ sig (Elt F)) (a b r : Ref sig .tc) (x y) (ha : r ≠ a) (hb : r ≠ b) :
    Function.update (Function.update W (Proc.devRef .tc a) x) (Proc.devRef .tc b) y (Proc.devRef .tc r) = W (Proc.devRef .tc r) := by
  rw [Function.update_of_ne (ne_ref hb), Function.update_of_ne (ne_ref ha)]

/-! ## The ghost state the pipelines are dealt -/

/-- The pipelines' part of the resource algebra. -/
def EP : Emb UP (MT nD τ sig (HIx 1) (Elt F) ℕ UU ℕ) := (Emb.inl : Emb UP (UP × Counters)).trans embR
instance EP_landsIn : (EP (F := F)).LandsIn (upEmb : UEmb _ 𝕄) := by unfold EP; infer_instance

abbrev pcs : (p : Fin 3) → Pipeline.Cfg sig Λ₀ := Pipeline.pin (pcfgs (F := F)) adm
theorem pinj : Function.Injective (cellOf (nD := nD) (τ := τ) (pcs (F := F))) := cellOf_inj

/-- What a TensorCore is dealt for the three pipelines. -/
def G (d : Dev nD) : sProp 𝕄 :=
  iprop((bigSep Finset.univ fun p : Fin 3 => cellsGhost (pcs (F := F)) EP p d) ∗ bigSep Finset.univ fun p : Fin 3 => toksInit (pcs (F := F)) EP p d)

def u₀ : UU := (initOf (K (F := F)).hsCells (K (F := F)).hsToks,
  (initOf (Pipeline.cells (pcs (F := F)) pinj) (Pipeline.launchToks (pcs (F := F)) pinj), 1))

theorem own_EP (a : UP) : (BI.own ((embR : Emb (UP × Counters) 𝕄) (a, (1 : Counters))) : sProp 𝕄) ⊢ BI.own (EP (F := F) a) :=
  (own_pair_emb (embR : Emb (UP × Counters) 𝕄) a (1 : Counters)).trans sep_elim_left

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (pcs (F := F)) pinj) (Pipeline.launchToks (pcs (F := F)) pinj), 1) : UP × Counters)) $$ Hu
  icases H with ⟨HH, HR⟩
  ihave HP := (own_EP (initOf (Pipeline.cells (pcs (F := F)) pinj) (Pipeline.launchToks (pcs (F := F)) pinj))) $$ HR
  imod (Pipeline.fund_ghost (pcs (F := F)) (EP (F := F)) pinj) $$ HP with ⟨Hg, Ht⟩
  imodintro
  isplitl [HH]; · iexact HH
  isplitl [Hg Ht]
  · unfold G
    rw [bigSep_sep']
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep (Finset.univ : Finset (Thread nD τ)) fun _ => iprop(emp)) = (iprop(emp) : sProp 𝕄) from bigSep_emp_const _]
  iempintro

/-! ## @main on the TensorCore -/

/-- The unscoped buffers of a device's TensorCore at a valuation. -/
abbrev heldAll (d : Dev nD) (W : Valuation τ sig (Elt F)) : sProp 𝕄 := StableHlo.held (d.tc : Thread nD τ) (ucRefs τ sig) W

theorem x_mem : (Proc.devRef .tc main_arg1 : DevRef τ sig) ∈ ucRefs τ sig := by decide
theorem o_mem : (Proc.devRef .tc main_v2 : DevRef τ sig) ∈ (ucRefs τ sig).erase (Proc.devRef .tc main_arg1) := by decide

/-- The SparseCore call's two buffers apart from the rest. -/
theorem held_xo (d : Dev nD) (W : Valuation τ sig (Elt F)) :
    (heldAll d W : sProp 𝕄) = iprop((xLoc d ↦{fullShare} W (Proc.devRef .tc main_arg1)) ∗ (oLoc d ↦{fullShare} W (Proc.devRef .tc main_v2))
      ∗ StableHlo.held (d.tc : Thread nD τ) (((ucRefs τ sig).erase (Proc.devRef .tc main_arg1)).erase (Proc.devRef .tc main_v2)) W) := by
  unfold heldAll StableHlo.held
  rw [SparseCore.bigSep_erase' x_mem, SparseCore.bigSep_erase' o_mem]

theorem W1_x (d : Dev nD) : W1 m d (Proc.devRef .tc main_arg1) = m (xLoc d) :=
  (StableHlo.result_of_writes_ne opB _ main_v1 main_arg1 rfl (by decide)).trans (StableHlo.result_of_writes_ne opA _ main_v0 main_arg1 rfl (by decide))
theorem W1_o (d : Dev nD) : W1 m d (Proc.devRef .tc main_v2) = m (oLoc d) :=
  (StableHlo.result_of_writes_ne opB _ main_v1 main_v2 rfl (by decide)).trans (StableHlo.result_of_writes_ne opA _ main_v0 main_v2 rfl (by decide))

theorem held_W2 (d : Dev nD) : iprop((xLoc d ↦{fullShare} m (xLoc d)) ∗ (oLoc d ↦{fullShare} asO d (m (xLoc d)))
      ∗ StableHlo.held (d.tc : Thread nD τ) (((ucRefs τ sig).erase (Proc.devRef .tc main_arg1)).erase (Proc.devRef .tc main_v2)) (W1 m d)) ⊢ (heldAll d (W2 m d) : sProp 𝕄) := by
  rw [held_xo d (W2 m d)]
  have e1 : W2 m d (Proc.devRef .tc main_arg1) = m (xLoc d) := (Function.update_of_ne (ne_ref (by decide)) _ _).trans (W1_x m d)
  have e2 : W2 m d (Proc.devRef .tc main_v2) = asO d (m (xLoc d)) := Function.update_self ..
  rw [e1, e2, StableHlo.held_congr (V := W2 m d) (V' := W1 m d) _ (fun b hb => Function.update_of_ne (Finset.ne_of_mem_erase hb) _ _)]

/-- A region's step in the program: from the buffers at `W` to the buffers at `W'`. -/
theorem lift_call (d : Dev nD) (p : Fin 3) (Q : PUnit → sProp 𝕄) :
    wp frame (wpE (D (F := F)) 𝒱 (d.tc : Thread nD τ) none) Set.univ (.op (.customCall (Pipeline.entry p) ()) fun x => .ret x) Q
      ⊢ wp frame (wpE ((K (F := F)).defs (D (F := F))) 𝒱 (SparseCore.T d) none) Set.univ (Prog.lift (.customCall (SparseCore.inner (Pipeline.entry p)) ())) Q :=
  (K (F := F)).wp_liftProg (D (F := F)) 𝒱 (SparseCore.T d) Set.univ none (.op (.customCall (Pipeline.entry p) ()) fun x => .ret x) Q

theorem asV_held (d : Dev nD) (W : Dev nD → Valuation τ sig (Elt F)) : (unscopedBufs d (asV W d) : sProp 𝕄) = heldAll d (W d) :=
  Pipeline.unscopedBufs_held d (W d)

theorem call1 (d : Dev nD) (Q : PUnit → sProp 𝕄) :
    iprop((iprop(boundary (d.tc : Thread nD τ) ∗ heldAll d (W4 m d) ∗ waited (F := F) d) -∗ Q ⟨⟩)
        ∗ boundary (d.tc : Thread nD τ) ∗ (heldAll d (W3 m d) ∗ waited (F := F) d) ∗ levAts (K (F := F)).L (K (F := F)).lev
        ∗ cellsGhost (pcs (F := F)) EP 0 d ∗ toksInit (pcs (F := F)) EP 0 d)
      ⊢ wp frame (wpE ((K (F := F)).defs (D (F := F))) 𝒱 (SparseCore.T d) none) Set.univ (Prog.lift (.customCall (SparseCore.inner (Pipeline.entry 0)) ())) Q := by
  have hreg := Pipeline.RegionSeg.wp (pcfgs (F := F)) adm (pdats1 (asV (W3 m))) none pinj (EP (F := F)) defs₀ 𝒱₀ (K (F := F)).L (K (F := F)).lev
    (reg1 (asV (W3 m)) (asV (W4 m)) (fun c => upd2_fst _ _ _ (by decide) _ _) (fun c => upd2_snd _ _ _ _ _) (fun c b h h' => upd2_ne _ _ _ _ _ _ h h')) d none
    (fun _ h => nomatch h) (fun x => .ret x) Q
  refine .trans ?_ (lift_call d 0 Q)
  refine .trans ?_ hreg
  rw [← asV_held d (W3 m), ← asV_held d (W4 m)]
  iintro ⟨Hk, H⟩
  isplitr [H]
  · iintro H
    rw [wp_ret]; imodintro
    iapply Hk; iexact H
  · iexact H

theorem call2 (d : Dev nD) (Q : PUnit → sProp 𝕄) :
    iprop((iprop(boundary (d.tc : Thread nD τ) ∗ heldAll d (W6 m d) ∗ waited (F := F) d) -∗ Q ⟨⟩)
        ∗ boundary (d.tc : Thread nD τ) ∗ (heldAll d (W5 m d) ∗ waited (F := F) d) ∗ levAts (K (F := F)).L (K (F := F)).lev
        ∗ cellsGhost (pcs (F := F)) EP 1 d ∗ toksInit (pcs (F := F)) EP 1 d)
      ⊢ wp frame (wpE ((K (F := F)).defs (D (F := F))) 𝒱 (SparseCore.T d) none) Set.univ (Prog.lift (.customCall (SparseCore.inner (Pipeline.entry 1)) ())) Q := by
  have hreg := Pipeline.RegionSeg.wp (pcfgs (F := F)) adm (pdats2 (asV (W5 m))) none pinj (EP (F := F)) defs₀ 𝒱₀ (K (F := F)).L (K (F := F)).lev
    (reg2 (asV (W5 m)) (asV (W6 m)) (fun c => upd2_fst _ _ _ (by decide) _ _) (fun c => upd2_snd _ _ _ _ _) (fun c b h h' => upd2_ne _ _ _ _ _ _ h h')) d none
    (fun _ h => nomatch h) (fun x => .ret x) Q
  refine .trans ?_ (lift_call d 1 Q)
  refine .trans ?_ hreg
  rw [← asV_held d (W5 m), ← asV_held d (W6 m)]
  iintro ⟨Hk, H⟩
  isplitr [H]
  · iintro H
    rw [wp_ret]; imodintro
    iapply Hk; iexact H
  · iexact H

theorem call3 (d : Dev nD) (Q : PUnit → sProp 𝕄) :
    iprop((iprop(boundary (d.tc : Thread nD τ) ∗ heldAll d (W8 m d) ∗ waited (F := F) d) -∗ Q ⟨⟩)
        ∗ boundary (d.tc : Thread nD τ) ∗ (heldAll d (W7 m d) ∗ waited (F := F) d) ∗ levAts (K (F := F)).L (K (F := F)).lev
        ∗ cellsGhost (pcs (F := F)) EP 2 d ∗ toksInit (pcs (F := F)) EP 2 d)
      ⊢ wp frame (wpE ((K (F := F)).defs (D (F := F))) 𝒱 (SparseCore.T d) none) Set.univ (Prog.lift (.customCall (SparseCore.inner (Pipeline.entry 2)) ())) Q := by
  have hreg := Pipeline.RegionSeg.wp (pcfgs (F := F)) adm (pdats3 (asV (W7 m))) none pinj (EP (F := F)) defs₀ 𝒱₀ (K (F := F)).L (K (F := F)).lev
    (reg3 (asV (W7 m)) (asV (W8 m)) (fun c => upd2_fst _ _ _ (by decide) _ _) (fun c => upd2_snd _ _ _ _ _) (fun c b h h' => upd2_ne _ _ _ _ _ _ h h')) d none
    (fun _ h => nomatch h) (fun x => .ret x) Q
  refine .trans ?_ (lift_call d 2 Q)
  refine .trans ?_ hreg
  rw [← asV_held d (W7 m), ← asV_held d (W8 m)]
  iintro ⟨Hk, H⟩
  isplitr [H]
  · iintro H
    rw [wp_ret]; imodintro
    iapply Hk; iexact H
  · iexact H

/-- After the SparseCore call the core owes nothing, and its waits sit low. -/
theorem tcSt_open (d : Dev nD) : ((K (F := F)).tcSt EH d 1 : sProp 𝕄) ⊢ iprop(waited (F := F) d ∗ (waited (F := F) d -∗ (K (F := F)).tcSt EH d 1)) := by
  unfold SparseCore.Cfg.tcSt waited
  rw [(K (F := F)).Otc_end d le_rfl]
  iintro ⟨⟨%W, %hW, HO⟩, Hr⟩
  isplitl [HO]
  · iexists W; isplitr; · ipureintro; exact hW
    iexact HO
  iintro ⟨%W', %hW', HO⟩
  isplitl [HO]
  · iexists W'; isplitr; · ipureintro; exact hW'
    iexact HO
  iexact Hr

theorem bigSep_fin_three (Φ : Fin 3 → sProp 𝕄) : bigSep Finset.univ Φ = iprop(Φ 0 ∗ Φ 1 ∗ Φ 2) :=
  bigSep_eq_bigSepL_of_eq [0, 1, 2] (by decide) (by decide) Φ

theorem W0_held (d : Dev nD) : (unscopedBufs d (fun b => m ((SparseCore.T d).loc b)) : sProp 𝕄) = heldAll d (W0 m d) :=
  Pipeline.unscopedBufs_held d (W0 m d)

/-- @main on device `d`'s TensorCore: from the launch to the buffers at `W9`. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ heldAll d (W9 m d) ∗ (K (F := F)).tcEnd d) := by
  unfold SparseCore.Cfg.tcRes SparseCore.Cfg.tcEnd G
  rw [W0_held, bigSep_fin_three, bigSep_fin_three]
  simp only [main, wp_bind, wp_pure]
  iintro ⟨#Hctx, Hst, ⟨Hb, Hh, Hts, -⟩, ⟨Hg0, Hg1, Hg2⟩, Ht0, Ht1, Ht2⟩
  ihave #Hlev := (SparseCore.Cfg.ctx_levAts κ) $$ Hctx
  -- the weights
  iapply (StableHlo.wp_hlo_within 𝒱 (SparseCore.T d) none Set.univ (Pipeline.sub_ucRefs _ (StableHlo.reshape_bufs_sub ..))) $$ [Hb Hh]
  · isplitl [Hb]; · iexact Hb
    iexact Hh
  iintro ⟨Hb, Hh⟩
  rw [wp_ret]; imodintro
  iapply (StableHlo.wp_hlo_within 𝒱 (SparseCore.T d) none Set.univ (Pipeline.sub_ucRefs _ (StableHlo.binary_bufs_sub ..))) $$ [Hb Hh]
  · isplitl [Hb]; · iexact Hb
    iexact Hh
  iintro ⟨Hb, Hh⟩
  rw [wp_ret]; imodintro
  -- the SparseCore call
  ihave Hh := (show (StableHlo.held (SparseCore.T d) (ucRefs τ sig) (opB.result (opA.result (W0 m d))) : sProp 𝕄) ⊢ heldAll d (W1 m d) from Entails.of_eq rfl) $$ Hh
  ihave Hh := (Entails.of_eq (held_xo d (W1 m d))) $$ Hh
  icases Hh with ⟨Hx, Ho, Hr⟩
  rw [W1_x, W1_o]
  iapply ((K (F := F)).wp_run (D (F := F)) 𝒱 (EH := EH) (P := P m) κ d 0)
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  ihave Hh := (held_W2 m d) $$ [Hx Ho Hr]
  · isplitl [Hx]; · iexact Hx
    isplitl [Ho]; · iexact Ho
    iexact Hr
  ihave Hst' := (show ((K (F := F)).tcSt EH d ((0 : Fin 1).val + 1) : sProp 𝕄) ⊢ _ from tcSt_open d) $$ Hst
  icases Hst' with ⟨Hw, Hst⟩
  -- the first pipeline
  iapply (StableHlo.wp_hlo_within 𝒱 (SparseCore.T d) none Set.univ (Pipeline.sub_ucRefs _ (StableHlo.unary_bufs_sub ..))) $$ [Hb Hh]
  · isplitl [Hb]; · iexact Hb
    iexact Hh
  iintro ⟨Hb, Hh⟩
  rw [wp_ret]; imodintro
  ihave Hh := (show (StableHlo.held (SparseCore.T d) (ucRefs τ sig) (opC.result (W2 m d)) : sProp 𝕄) ⊢ heldAll d (W3 m d) from Entails.of_eq rfl) $$ Hh
  iapply (call1 m d)
  isplitr [Hb Hh Hw Hg0 Ht0]; swap
  · isplitl [Hb]; · iexact Hb
    isplitl [Hh Hw]
    · isplitl [Hh]; · iexact Hh
      iexact Hw
    isplitr; · iexact Hlev
    isplitl [Hg0] <;> iassumption
  iintro ⟨Hb, Hh, Hw⟩
  -- the second
  iapply (StableHlo.wp_hlo_within 𝒱 (SparseCore.T d) none Set.univ (Pipeline.sub_ucRefs _ (StableHlo.unary_bufs_sub ..))) $$ [Hb Hh]
  · isplitl [Hb]; · iexact Hb
    iexact Hh
  iintro ⟨Hb, Hh⟩
  rw [wp_ret]; imodintro
  ihave Hh := (show (StableHlo.held (SparseCore.T d) (ucRefs τ sig) (opD.result (W4 m d)) : sProp 𝕄) ⊢ heldAll d (W5 m d) from Entails.of_eq rfl) $$ Hh
  iapply (call2 m d)
  isplitr [Hb Hh Hw Hg1 Ht1]; swap
  · isplitl [Hb]; · iexact Hb
    isplitl [Hh Hw]
    · isplitl [Hh]; · iexact Hh
      iexact Hw
    isplitr; · iexact Hlev
    isplitl [Hg1] <;> iassumption
  iintro ⟨Hb, Hh, Hw⟩
  -- the third
  iapply (StableHlo.wp_hlo_within 𝒱 (SparseCore.T d) none Set.univ (Pipeline.sub_ucRefs _ (StableHlo.unary_bufs_sub ..))) $$ [Hb Hh]
  · isplitl [Hb]; · iexact Hb
    iexact Hh
  iintro ⟨Hb, Hh⟩
  rw [wp_ret]; imodintro
  ihave Hh := (show (StableHlo.held (SparseCore.T d) (ucRefs τ sig) (opE.result (W6 m d)) : sProp 𝕄) ⊢ heldAll d (W7 m d) from Entails.of_eq rfl) $$ Hh
  iapply (call3 m d)
  isplitr [Hb Hh Hw Hg2 Ht2]; swap
  · isplitl [Hb]; · iexact Hb
    isplitl [Hh Hw]
    · isplitl [Hh]; · iexact Hh
      iexact Hw
    isplitr; · iexact Hlev
    isplitl [Hg2] <;> iassumption
  iintro ⟨Hb, Hh, Hw⟩
  -- the stripe over the copied weights
  iapply (StableHlo.wp_hlo_within 𝒱 (SparseCore.T d) none Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within 𝒱 (SparseCore.T d) none Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within 𝒱 (SparseCore.T d) none Set.univ (Pipeline.sub_ucRefs _ (StableHlo.binaryIndexed_bufs_sub ..))) $$ [Hb Hh]
  · isplitl [Hb]; · iexact Hb
    iexact Hh
  iintro ⟨Hb, Hh⟩
  rw [wp_ret]; imodintro
  ihave Hh := (show (StableHlo.held (SparseCore.T d) (ucRefs τ sig) (opH.result (opG.result (opF.result (W8 m d)))) : sProp 𝕄) ⊢ heldAll d (W9 m d) from Entails.of_eq rfl) $$ Hh
  imodintro
  isplitl [Hst Hw]
  · iapply Hst; iexact Hw
  isplitl [Hh]; · iexact Hh
  isplitl [Hb] <;> iassumption

/-- The final memory at the unscoped buffers. -/
def fq (d : Dev nD) (s' : Phys nD τ sig (Elt F)) : Prop := ∀ b ∈ ucRefs τ sig, s'.mem.mem (d, b) = W9 m d b

theorem hfin (d : Dev nD) (s' : Phys nD τ sig (Elt F)) : iprop(heldAll d (W9 m d) ∗ SI s') ⊢ (⌜fq m d s'⌝ : sProp 𝕄) :=
  (pointsTo_read_all (ucRefs τ sig) (fun b => ((d, b) : Loc nD τ sig)) (fun b => W9 m d b) s').trans sep_elim_left

def QC : PUnit × MemSt nD τ sig (Elt F) → Prop := fun r => (∀ d : Dev nD, ∀ b ∈ ucRefs τ sig, r.2.mem (d, b) = W9 m d b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G (F := F) d) (fun d => heldAll d (W9 m d)) (u₀ (F := F)) (sep_elim_left.trans (hu₀ m)) (hmain m ρ) (fq m) (hfin m) (QC m) (fun _ h hz => ⟨h, hz⟩)

end Cert.Proof.Tile

end
-- ==== Proof.Frames.lean ====
/-
  What @main leaves in its argument arrays: their contents at the launch.
-/
module

public import proofs.«01_k».proof.Proof.Main

@[expose] public section

noncomputable section

namespace Cert.Proof.Tile

open Cert.KernelIdeal Cert.KernelIdeal.Gen
open Idealize.ShloMosaic
open Idealize.ShloMosaic.TcCoe
open Idealize.SL.Sem
open Idealize.ShloMosaic.Pipeline (ucRefs)

variable {F : FTy → Type} [FloatOps F]
variable (m : (ℓ : Loc nD τ sig) → Buf (Elt F) ℓ) (d : Dev nD)

/-! Each step keeps the buffers it does not write. -/

theorem keep1 (r : Ref sig .tc) (ha : r ≠ main_v0) (hb : r ≠ main_v1) : W1 m d (Proc.devRef .tc r) = m (d, Proc.devRef .tc r) := by
  unfold W1; rw [StableHlo.result_of_writes_ne opB _ main_v1 r rfl hb, StableHlo.result_of_writes_ne opA _ main_v0 r rfl ha]; rfl
theorem keep2 (r : Ref sig .tc) (h : r ≠ main_v2) : W2 m d (Proc.devRef .tc r) = W1 m d (Proc.devRef .tc r) :=
  Function.update_of_ne (ne_ref h) _ _
theorem keep3 (r : Ref sig .tc) (h : r ≠ main_v3) : W3 m d (Proc.devRef .tc r) = W2 m d (Proc.devRef .tc r) :=
  StableHlo.result_of_writes_ne opC _ main_v3 r rfl h
theorem keep4 (r : Ref sig .tc) (ha : r ≠ main_v4_0) (hb : r ≠ main_v4_1) : W4 m d (Proc.devRef .tc r) = W3 m d (Proc.devRef .tc r) :=
  upd2_ne _ _ _ r _ _ ha hb
theorem keep5 (r : Ref sig .tc) (h : r ≠ main_v5) : W5 m d (Proc.devRef .tc r) = W4 m d (Proc.devRef .tc r) :=
  StableHlo.result_of_writes_ne opD _ main_v5 r rfl h
theorem keep6 (r : Ref sig .tc) (ha : r ≠ main_v6_0) (hb : r ≠ main_v6_1) : W6 m d (Proc.devRef .tc r) = W5 m d (Proc.devRef .tc r) :=
  upd2_ne _ _ _ r _ _ ha hb
theorem keep7 (r : Ref sig .tc) (h : r ≠ main_v7) : W7 m d (Proc.devRef .tc r) = W6 m d (Proc.devRef .tc r) :=
  StableHlo.result_of_writes_ne opE _ main_v7 r rfl h
theorem keep8 (r : Ref sig .tc) (ha : r ≠ main_v8_0) (hb : r ≠ main_v8_1) : W8 m d (Proc.devRef .tc r) = W7 m d (Proc.devRef .tc r) :=
  upd2_ne _ _ _ r _ _ ha hb
theorem keep9 (r : Ref sig .tc) (ha : r ≠ main_c) (hb : r ≠ main_c_0) (hc : r ≠ main_v9) :
    W9 m d (Proc.devRef .tc r) = W8 m d (Proc.devRef .tc r) := by
  unfold W9
  rw [StableHlo.result_of_writes_ne opH _ main_v9 r rfl hc, StableHlo.result_of_writes_ne opG _ main_c_0 r rfl hb,
    StableHlo.result_of_writes_ne opF _ main_c r rfl ha]

/-- The arrays @main writes. -/
def written : Finset (Ref sig .tc) :=
  {main_v0, main_v1, main_v2, main_v3, main_v4_0, main_v4_1, main_v5, main_v6_0, main_v6_1, main_v7, main_v8_0, main_v8_1, main_c, main_c_0, main_v9}

/-- An array @main does not write ends at what it held at the launch. -/
theorem kept (r : Ref sig .tc) (h : r ∉ written) : W9 m d (Proc.devRef .tc r) = m (d, Proc.devRef .tc r) := by
  simp only [written, Finset.mem_insert, Finset.mem_singleton, not_or] at h
  obtain ⟨h0, h1, h2, h3, h40, h41, h5, h60, h61, h7, h80, h81, hc, hc0, h9⟩ := h
  rw [keep9 m d r hc hc0 h9, keep8 m d r h80 h81, keep7 m d r h7, keep6 m d r h60 h61, keep5 m d r h5, keep4 m d r h40 h41,
    keep3 m d r h3, keep2 m d r h2, keep1 m d r h0 h1]

/-- After the run an argument array holds what it held at the launch. -/
theorem arg_kept {r : PUnit × MemSt nD τ sig (Elt F)} (h : QC m r) (c : Dev nD) (b : Ref sig .tc)
    (hb : Proc.devRef .tc b ∈ ucRefs τ sig) (hw : b ∉ written) :
    r.2.mem ((c.tc : Thread nD τ).loc b) = m ((c.tc : Thread nD τ).loc b) :=
  (h.1 c _ hb).trans (kept m c b hw)

/-- The nine argument arrays are kept, and the counters end at zero. -/
theorem args_kept {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  ⟨arg_kept m h c _ (by decide) (by decide), arg_kept m h c _ (by decide) (by decide), arg_kept m h c _ (by decide) (by decide),
   arg_kept m h c _ (by decide) (by decide), arg_kept m h c _ (by decide) (by decide), arg_kept m h c _ (by decide) (by decide),
   arg_kept m h c _ (by decide) (by decide), arg_kept m h c _ (by decide) (by decide), arg_kept m h c _ (by decide) (by decide)⟩

end Cert.Proof.Tile

end
-- ==== Proof.Spec.lean ====
/-
  The mathematics of the problem on the extended reals: one layer of the network, and the update of one weight matrix.
-/
module

public import Idealize.ShloMosaic.Lib.Pipeline.Value
public import Idealize.ShloMosaic.Lib.ValueIdx
public import Idealize.ShloMosaic.PureOps.Ideal.Laws

@[expose] public section

noncomputable section

namespace Cert.Proof.Spec

open Idealize.ShloMosaic Idealize.ShloMosaic.ValueIdx

/-- The batch of activations, the weights, a bias, the mixing weights and the mixing offset. -/
abbrev Act : Type := (⟨2, ![32, 4096]⟩ : Shape).Idx → EReal
abbrev Wgt : Type := (⟨2, ![4096, 4096]⟩ : Shape).Idx → EReal
abbrev Bias : Type := (⟨1, ![4096]⟩ : Shape).Idx → EReal
abbrev Mix : Type := (⟨2, ![1, 3]⟩ : Shape).Idx → EReal
abbrev Off : Type := (⟨1, ![1]⟩ : Shape).Idx → EReal

/-- One layer: the product with the transposed weights, the bias added, negatives cut to zero. -/
def layer (h : Act) (W : Wgt) (b : Bias) : Act := fun i =>
  max ((∑ k : Fin 4096, h (ix2 (i 0) k) * W (ix2 (i 1) k)) + b (ix1 (i 1))) 0

/-- The patched entry `(r, c)` of the weights: the mix of the input's entry `c`, the weight and the output's entry `r`. -/
def mixed (h : Act) (W : Wgt) (o : Act) (mw : Mix) (mb : Off) (r c : Fin 4096) : EReal :=
  mw (ix2 0 0) * h (ix2 0 c) + mw (ix2 0 1) * W (ix2 r c) + mw (ix2 0 2) * o (ix2 0 r) + mb (ix1 0)

/-- The updated weights: the leading 32 by 32 corner mixed, the rest kept. -/
def upd (h : Act) (W : Wgt) (o : Act) (mw : Mix) (mb : Off) : Wgt := fun i =>
  if (i 0).val < 32 ∧ (i 1).val < 32 then mixed h W o mw mb (i 0) (i 1) else W i

end Cert.Proof.Spec

end
-- ==== Proof.Payload.lean ====
/-
  What the TensorCore bodies compute, read at an index on the extended reals.
-/
module

public import proofs.«01_k».proof.Proof.Spec
public import proofs.«01_k».proof.Proof.Bodies

@[expose] public section

noncomputable section

namespace Cert.Proof.Tile

open Cert.KernelIdeal Cert.KernelIdeal.Gen Cert.Proof.Spec
open Idealize.ShloMosaic Idealize.ShloMosaic.ValueIdx

local notation "D" => dot_S32x4096_S512x4096_S32x512_1_1_0_0_n_n

theorem lhsD_0 (i : S32x512.Idx) (q : (D).contr.Idx) : ((D).lhsIdx i q 0).val = (i 0).val := by
  unfold DotDims.lhsIdx
  rw [dif_neg (show ¬(0 : Fin S32x4096.rank) ∈ (D).lhsBatch by decide), dif_pos (show (0 : Fin S32x4096.rank) ∈ (D).lhsNonContracting by decide)]
  rfl
theorem lhsD_1 (i : S32x512.Idx) (q : (D).contr.Idx) : ((D).lhsIdx i q 1).val = (q ⟨0, by decide⟩).val :=
  (D).lhsIdx_val_of_single rfl i q
theorem rhsD_0 (i : S32x512.Idx) (q : (D).contr.Idx) : ((D).rhsIdx i q 0).val = (i 1).val := by
  unfold DotDims.rhsIdx
  rw [dif_neg (show ¬(0 : Fin S512x4096.rank) ∈ (D).rhsBatch by decide), dif_pos (show (0 : Fin S512x4096.rank) ∈ (D).rhsNonContracting by decide)]
  rfl
theorem rhsD_1 (i : S32x512.Idx) (q : (D).contr.Idx) : ((D).rhsIdx i q 1).val = (q ⟨0, by decide⟩).val :=
  (D).rhsIdx_val_of_single rfl i q

variable (X1 : S32x4096.Idx → Elt Ideal .f32) (X2 : S512x4096.Idx → Elt Ideal .f32) (X3 : S1x512.Idx → Elt Ideal .f32) (X4 : S4.Idx → Elt Ideal .f32)

/-- The product of the activations with a block of the transposed weights, from zero. -/
theorem prod_at (r : Fin 32) (q : Fin 512) :
    matmul (F := Ideal) (φ₁ := .f32) (φ₂ := .f32) D none X1 X2 (constant S32x512 .f32 0x00000000#32) (ix2 r q) = ∑ k : Fin 4096, X1 (ix2 r k) * X2 (ix2 q k) := by
  refine (Ideal.matmul_apply (D) none X1 X2 _ _).trans ?_
  rw [constant_apply, Ideal.ofBits_zero_f32, zero_add, ← Equiv.sum_comp (contrEquiv1 (D) 4096 rfl rfl).symm]
  refine Finset.sum_congr rfl fun k _ => ?_
  have hk := contrEquiv1_symm_val (D) 4096 rfl rfl k
  congr 1
  · refine congrArg X1 (funext fun a => Fin.ext ?_)
    match a with
    | ⟨0, _⟩ => exact lhsD_0 _ _
    | ⟨1, _⟩ => exact (lhsD_1 _ _).trans hk
  · refine congrArg X2 (funext fun a => Fin.ext ?_)
    match a with
    | ⟨0, _⟩ => exact rhsD_0 _ _
    | ⟨1, _⟩ => exact (rhsD_1 _ _).trans hk

/-- The block of the layer. -/
theorem pay1_at (r : Fin 32) (q : Fin 512) :
    k2_pay1 (F := Ideal) X1 X2 X3 (ix2 r q) = max ((∑ k : Fin 4096, X1 (ix2 r k) * X2 (ix2 q k)) + X3 (ix2 0 q)) 0 := by
  unfold k2_pay1
  rw [shapeCast_self X1, shapeCast_self X3, maximumf_apply, addf_apply, prod_at, broadcast_apply]
  have e : broadcastTo S32x512 X3 broadcasts_S1x512_S32x512 (ix2 r q) = X3 (ix2 0 q) :=
    broadcastTo_apply X3 _ _ _ fun a => match a with
      | ⟨0, _⟩ => rfl
      | ⟨1, _⟩ => rfl
  rw [e]
  exact congrArg (max _) Ideal.ofBits_zero_f32

/-- The mixed corner. -/
theorem corner_at (r c : Fin 32) :
    corner (F := Ideal) X1 X2 X3 X4 (ix2 r c)
      = mpAt X4 0 * X1 (ix2 0 ⟨c.val, by omega⟩) + mpAt X4 1 * X2 (ix2 ⟨r.val, by omega⟩ ⟨c.val, by omega⟩)
        + mpAt X4 2 * k2_pay1 (F := Ideal) X1 X2 X3 (ix2 0 ⟨r.val, by omega⟩) + mpAt X4 3 := by
  unfold corner k2_pay2
  generalize k2_pay1 (F := Ideal) X1 X2 X3 = Y
  rw [addf_apply, addf_apply, addf_apply, mulf_apply, broadcast_apply, broadcast_apply]
  have e0 : broadcastTo S32x32 (mulf (broadcast S1x32 (mpAt X4 0)) (shapeCast S1x32 (extractStridedSlice S32 ![0] (shapeCast S4096 (row0 X1) shapeCasts_S1x4096_S4096) slices_S4096_o0_S32) shapeCasts_S32_S1x32)) broadcasts_S1x32_S32x32 (ix2 r c)
      = mpAt X4 0 * X1 (ix2 0 ⟨c.val, by omega⟩) := by
    refine (broadcastTo_apply _ _ _ (ix2 0 c) fun a => match a with
      | ⟨0, _⟩ => rfl
      | ⟨1, _⟩ => rfl).trans ?_
    rw [mulf_apply, broadcast_apply]
    congr 1
    refine (shapeCast_apply _ shapeCasts_S32_S1x32 _ (ix1 c) (by rw [Shape.rowMajor_val_two, Shape.rowMajor_val_one]; show c.val = 0 * 32 + c.val; omega)).trans ?_
    refine (extractStridedSlice_apply _ _ _ _ (ix1 (⟨c.val, by omega⟩ : Fin 4096)) fun a => match a with
      | ⟨0, _⟩ => (Nat.zero_add _).symm).trans ?_
    refine (shapeCast_apply _ shapeCasts_S1x4096_S4096 _ (ix2 (0 : Fin 1) (⟨c.val, by omega⟩ : Fin 4096)) (by rw [Shape.rowMajor_val_two, Shape.rowMajor_val_one]; show 0 * 4096 + c.val = c.val; omega)).trans ?_
    refine congrArg X1 (funext fun a => Fin.ext ?_)
    match a with
    | ⟨0, _⟩ => rfl
    | ⟨1, _⟩ => show 0 + 1 * c.val = c.val; omega
  have e1 : extractStridedSlice S32x32 ![0, 0] X2 slices_S512x4096_o0_0_S32x32 (ix2 r c) = X2 (ix2 ⟨r.val, by omega⟩ ⟨c.val, by omega⟩) :=
    extractStridedSlice_apply _ _ _ _ _ fun a => match a with
      | ⟨0, _⟩ => (Nat.zero_add _).symm
      | ⟨1, _⟩ => (Nat.zero_add _).symm
  have e2 : broadcastTo S32x32 (mulf (broadcast S32x1 (mpAt X4 2)) (shapeCast S32x1 (extractStridedSlice S32 ![0] (shapeCast S512 (extractStridedSlice S1x512 ![0, 0] Y slices_S32x512_o0_0_S1x512) shapeCasts_S1x512_S512) slices_S512_o0_S32) shapeCasts_S32_S32x1)) broadcasts_S32x1_S32x32 (ix2 r c)
      = mpAt X4 2 * Y (ix2 0 ⟨r.val, by omega⟩) := by
    refine (broadcastTo_apply _ _ _ (ix2 r 0) fun a => match a with
      | ⟨0, _⟩ => rfl
      | ⟨1, _⟩ => rfl).trans ?_
    rw [mulf_apply, broadcast_apply]
    congr 1
    refine (shapeCast_apply _ shapeCasts_S32_S32x1 _ (ix1 r) (by rw [Shape.rowMajor_val_two, Shape.rowMajor_val_one]; show r.val = r.val * 1 + 0; omega)).trans ?_
    refine (extractStridedSlice_apply _ _ _ _ (ix1 (⟨r.val, by omega⟩ : Fin 512)) fun a => match a with
      | ⟨0, _⟩ => (Nat.zero_add _).symm).trans ?_
    refine (shapeCast_apply _ shapeCasts_S1x512_S512 _ (ix2 (0 : Fin 1) (⟨r.val, by omega⟩ : Fin 512)) (by rw [Shape.rowMajor_val_two, Shape.rowMajor_val_one]; show 0 * 512 + r.val = r.val; omega)).trans ?_
    exact extractStridedSlice_apply _ _ _ _ _ fun a => match a with
      | ⟨0, _⟩ => (Nat.zero_add _).symm
      | ⟨1, _⟩ => (Nat.zero_add _).symm
  rw [e0, e1, e2]

/-- The patched block of the weights. -/
theorem fullW_at (r : Fin 512) (c : Fin 4096) :
    fullW (F := Ideal) X1 X2 X3 X4 (ix2 r c)
      = if h : r.val < 32 ∧ c.val < 32 then corner (F := Ideal) X1 X2 X3 X4 (ix2 ⟨r.val, h.1⟩ ⟨c.val, h.2⟩) else X2 (ix2 r c) := by
  unfold fullW
  split
  · next h =>
    have e : (Rect.unit (s := S512x4096) ![0, 0] S32x32.size inb_S512x4096_S32x32_0_0).emb (ix2 (⟨r.val, h.1⟩ : Fin 32) (⟨c.val, h.2⟩ : Fin 32)) = ix2 r c :=
      funext fun a => Fin.ext (by
        match a with
        | ⟨0, _⟩ => show 0 + 1 * r.val = r.val; omega
        | ⟨1, _⟩ => show 0 + 1 * c.val = c.val; omega)
    rw [← e]
    exact Rect.overlay_emb _ _ _ _
  · next h =>
    refine Rect.overlay_of_not_mem _ _ _ fun hm => h ?_
    rw [Rect.mem_set_unit] at hm
    have h0 := (hm 0).2
    have h1 := (hm 1).2
    have h0' : r.val < 0 + 32 := h0
    have h1' : c.val < 0 + 32 := h1
    omega

/-- The patched stripe of the weights. -/
theorem stripeW_at (r : Fin 32) (c : Fin 4096) :
    stripeW (F := Ideal) X1 X2 X3 X4 (ix2 r c)
      = if h : c.val < 32 then corner (F := Ideal) X1 X2 X3 X4 (ix2 r ⟨c.val, h⟩) else X2 (ix2 ⟨r.val, by omega⟩ c) := by
  unfold stripeW
  split
  · next h =>
    have e : (Rect.unit (s := S32x4096) ![0, 0] S32x32.size inb_S32x4096_S32x32_0_0).emb (ix2 (⟨r.val, r.isLt⟩ : Fin 32) (⟨c.val, h⟩ : Fin 32)) = ix2 r c :=
      funext fun a => Fin.ext (by
        match a with
        | ⟨0, _⟩ => show 0 + 1 * r.val = r.val; omega
        | ⟨1, _⟩ => show 0 + 1 * c.val = c.val; omega)
    rw [← e]
    exact Rect.overlay_emb _ _ _ _
  · next h =>
    refine (Rect.overlay_of_not_mem _ _ _ fun hm => h ?_).trans ?_
    · rw [Rect.mem_set_unit] at hm
      have h1 := (hm 1).2
      have h1' : c.val < 0 + 32 := h1
      omega
    · unfold k1_pay2
      exact extractStridedSlice_apply _ _ _ _ _ fun a => match a with
        | ⟨0, _⟩ => (Nat.zero_add _).symm
        | ⟨1, _⟩ => (Nat.zero_add _).symm

end Cert.Proof.Tile

end
-- ==== Proof.Value1.lean ====
/-
  The first TensorCore pipeline's result arrays on the extended reals: one layer, and the top stripe of the updated weights.
-/
module

public import proofs.«01_k».proof.Proof.Payload
public import proofs.«01_k».proof.Proof.Region1
public import Idealize.ShloMosaic.Lib.Pipeline.ValueKit

@[expose] public section

noncomputable section

namespace Cert.Proof.Tile

open Cert.KernelIdeal Cert.KernelIdeal.Gen Cert.Proof.Spec
open Idealize.ShloMosaic hiding ix1 ix2
open Idealize.ShloMosaic.ValueIdx Idealize.ShloMosaic.TcCoe
open Idealize.ShloMosaic.Pipeline (Dat Cfg Window)

theorem idx1_0 : ∀ t : Fin grid1.N, win1_0.index t 0 = 0 ∧ win1_0.index t 1 = 0 := by decide +kernel
theorem idx1_1 : ∀ t : Fin grid1.N, win1_1.index t 0 = t.val ∧ win1_1.index t 1 = 0 := by decide +kernel
theorem idx1_2 : ∀ t : Fin grid1.N, win1_2.index t 0 = 0 ∧ win1_2.index t 1 = t.val := by decide +kernel
theorem idx1_3 : ∀ t : Fin grid1.N, win1_3.index t 0 = 0 := by decide +kernel
theorem idx1_4 : ∀ t : Fin grid1.N, win1_4.index t 0 = 0 ∧ win1_4.index t 1 = t.val := by decide +kernel
theorem idx1_5 : ∀ t : Fin grid1.N, win1_5.index t 0 = 0 ∧ win1_5.index t 1 = 0 := by decide +kernel

/-- Row (or column) `q` of block `t`. -/
def at1 (t : Fin cfg1.N) (q : Fin 512) : Fin 4096 :=
  ⟨t.val * 512 + q.val, by have h : t.val < 8 := lt_of_lt_of_eq t.isLt N_1; have := q.isLt; omega⟩

variable (V : Val' Ideal)

theorem blk1_0_at (c : Dev nD) (t : Fin cfg1.N) (r : Fin 32) (k : Fin 4096) :
    blk1_0 V c t (ix2 r k) = V c main_arg0 (ix2 r k) := by
  show V c main_arg0 (((cfg1.win 0).blk t).view.emb (ix2 r k)) = _
  congr 1
  funext a; fin_cases a <;> apply Fin.ext
  · exact (Window.rect_emb_val win1_0 t (ix2 r k) 0).trans (by rw [(idx1_0 t).1]; exact (by simp : 0 * 32 + r.val = r.val))
  · exact (Window.rect_emb_val win1_0 t (ix2 r k) 1).trans (by rw [(idx1_0 t).2]; exact (by simp : 0 * 4096 + k.val = k.val))

theorem blk1_1_at (c : Dev nD) (t : Fin cfg1.N) (q : Fin 512) (k : Fin 4096) :
    blk1_1 V c t (ix2 q k) = V c main_arg1 (ix2 (at1 t q) k) := by
  show V c main_arg1 (((cfg1.win 1).blk t).view.emb (ix2 q k)) = _
  congr 1
  funext a; fin_cases a <;> apply Fin.ext
  · exact (Window.rect_emb_val win1_1 t (ix2 q k) 0).trans (by rw [(idx1_1 t).1]; rfl)
  · exact (Window.rect_emb_val win1_1 t (ix2 q k) 1).trans (by rw [(idx1_1 t).2]; exact (by simp : 0 * 4096 + k.val = k.val))

theorem blk1_2_at (c : Dev nD) (t : Fin cfg1.N) (q : Fin 512) :
    blk1_2 V c t (ix2 0 q) = V c main_v3 (ix2 0 (at1 t q)) := by
  show V c main_v3 (((cfg1.win 2).blk t).view.emb (ix2 0 q)) = _
  congr 1
  funext a; fin_cases a <;> apply Fin.ext
  · exact (Window.rect_emb_val win1_2 t (ix2 0 q) 0).trans (by rw [(idx1_2 t).1]; rfl)
  · exact (Window.rect_emb_val win1_2 t (ix2 0 q) 1).trans (by rw [(idx1_2 t).2]; rfl)

theorem blk1_3_at (c : Dev nD) (t : Fin cfg1.N) (k : Fin 4) :
    mpAt (blk1_3 V c t) k = V c main_v1 (ix1 k) := by
  have e : mpAt (blk1_3 V c t) k = blk1_3 V c t (ix1 k) := by
    unfold mpAt; congr 1; funext a; fin_cases a; rfl
  rw [e]
  show V c main_v1 (((cfg1.win 3).blk t).view.emb (ix1 k)) = _
  congr 1
  funext a; fin_cases a; apply Fin.ext
  exact (Window.rect_emb_val win1_3 t (ix1 k) 0).trans (by rw [idx1_3 t]; exact (by simp : 0 * 4 + k.val = k.val))

theorem emb1_4 (t : Fin cfg1.N) (r : Fin 32) (q : Fin 512) :
    ((cfg1.win 4).blk t).view.emb (ix2 r q) = (ix2 r (at1 t q) : S32x4096.Idx) := by
  funext a; fin_cases a <;> apply Fin.ext
  · exact (Window.rect_emb_val win1_4 t (ix2 r q) 0).trans (by rw [(idx1_4 t).1]; exact (by simp : 0 * 32 + r.val = r.val))
  · exact (Window.rect_emb_val win1_4 t (ix2 r q) 1).trans (by rw [(idx1_4 t).2]; rfl)

theorem emb1_5 (t : Fin cfg1.N) (r : Fin 32) (k : Fin 4096) :
    ((cfg1.win 5).blk t).view.emb (ix2 r k) = (ix2 r k : S32x4096.Idx) := by
  funext a; fin_cases a <;> apply Fin.ext
  · exact (Window.rect_emb_val win1_5 t (ix2 r k) 0).trans (by rw [(idx1_5 t).1]; exact (by simp : 0 * 32 + r.val = r.val))
  · exact (Window.rect_emb_val win1_5 t (ix2 r k) 1).trans (by rw [(idx1_5 t).2]; exact (by simp : 0 * 4096 + k.val = k.val))

variable (h : Act) (W : Wgt) (b : Bias) (mw : Mix) (mb : Off)

/-- The product block at an index. -/
theorem pay1_at1 (c : Dev nD) (hh : V c main_arg0 = h) (hW : V c main_arg1 = W)
    (hb : ∀ q : Fin 4096, V c main_v3 (ix2 0 q) = b (ix1 q)) (t : Fin cfg1.N) (r : Fin 32) (q : Fin 512) :
    k2_pay1 (blk1_0 V c t) (blk1_1 V c t) (blk1_2 V c t) (ix2 r q) = layer h W b (ix2 r (at1 t q)) := by
  rw [pay1_at, blk1_2_at, hb]
  simp only [blk1_0_at, blk1_1_at, hh, hW]
  rfl

/-- The first result array is the layer. -/
theorem out1_4_eq (c : Dev nD) (hh : V c main_arg0 = h) (hW : V c main_arg1 = W)
    (hb : ∀ q : Fin 4096, V c main_v3 (ix2 0 q) = b (ix1 q)) : out1_4 V c = layer h W b := by
  refine (dat1 V c).arrAt_eq_of_covers 4 _ (by decide +kernel) fun t hf y => ?_
  obtain ⟨r, q, rfl⟩ : ∃ (r : Fin 32) (q : Fin 512), y = ix2 r q := ⟨y 0, y 1, by funext a; fin_cases a <;> rfl⟩
  rw [emb1_4]
  show (dat1 V c).after 4 t (ix2 r q) = _
  rw [after1_4]
  exact pay1_at1 V h W b c hh hW hb t r q

/-- The second result array is the top stripe of the updated weights. -/
theorem out1_5_eq (c : Dev nD) (hh : V c main_arg0 = h) (hW : V c main_arg1 = W)
    (hb : ∀ q : Fin 4096, V c main_v3 (ix2 0 q) = b (ix1 q))
    (h0 : V c main_v1 (ix1 0) = mw (ix2 0 0)) (h1 : V c main_v1 (ix1 1) = mw (ix2 0 1))
    (h2 : V c main_v1 (ix1 2) = mw (ix2 0 2)) (h3 : V c main_v1 (ix1 3) = mb (ix1 0)) :
    out1_5 V c = fun i : S32x4096.Idx =>
      upd h W (layer h W b) mw mb (ix2 ⟨(i 0).val, lt_trans (i 0).isLt (by norm_num)⟩ ⟨(i 1).val, (i 1).isLt⟩) := by
  refine (dat1 V c).arrAt_eq_of_covers 5 _ (by decide +kernel) fun t hf y => ?_
  obtain ⟨r, k, rfl⟩ : ∃ (r : Fin 32) (k : Fin 4096), y = ix2 r k := ⟨y 0, y 1, by funext a; fin_cases a <;> rfl⟩
  rw [emb1_5]
  show (dat1 V c).after 5 t (ix2 r k) = upd h W (layer h W b) mw mb (ix2 ⟨r.val, lt_trans r.isLt (by norm_num)⟩ k)
  have hq : ∀ q : Fin 512, at1 t1_0 q = ⟨q.val, lt_trans q.isLt (by norm_num)⟩ := fun q =>
    Fin.ext (by show 0 * 512 + q.val = q.val; omega)
  rw [after1_5]
  unfold stripe1
  rw [stripeW_at]
  unfold upd
  by_cases hk : k.val < 32
  · rw [dif_pos hk, if_pos ⟨r.isLt, hk⟩, corner_at, pay1_at1 V h W b c hh hW hb, blk1_3_at, blk1_3_at, blk1_3_at, blk1_3_at,
      h0, h1, h2, h3, blk1_0_at, blk1_1_at, hh, hW, hq]
    rfl
  · rw [dif_neg hk, if_neg (fun hc => hk hc.2), blk1_1_at, hW, hq]

end Cert.Proof.Tile

end
-- ==== Proof.Value2.lean ====
/-
  The second TensorCore pipeline's result arrays on the extended reals: one layer, and the updated weights.
-/
module

public import proofs.«01_k».proof.Proof.Payload
public import proofs.«01_k».proof.Proof.Region2
public import Idealize.ShloMosaic.Lib.Pipeline.ValueKit

@[expose] public section

noncomputable section

namespace Cert.Proof.Tile

open Cert.KernelIdeal Cert.KernelIdeal.Gen Cert.Proof.Spec
open Idealize.ShloMosaic hiding ix1 ix2
open Idealize.ShloMosaic.ValueIdx Idealize.ShloMosaic.TcCoe
open Idealize.ShloMosaic.Pipeline (Dat Cfg Window)

theorem idx2_0 : ∀ t : Fin grid2.N, win2_0.index t 0 = 0 ∧ win2_0.index t 1 = 0 := by decide +kernel
theorem idx2_1 : ∀ t : Fin grid2.N, win2_1.index t 0 = t.val ∧ win2_1.index t 1 = 0 := by decide +kernel
theorem idx2_2 : ∀ t : Fin grid2.N, win2_2.index t 0 = 0 ∧ win2_2.index t 1 = t.val := by decide +kernel
theorem idx2_3 : ∀ t : Fin grid2.N, win2_3.index t 0 = 0 := by decide +kernel
theorem idx2_4 : ∀ t : Fin grid2.N, win2_4.index t 0 = 0 ∧ win2_4.index t 1 = t.val := by decide +kernel
theorem idx2_5 : ∀ t : Fin grid2.N, win2_5.index t 0 = t.val ∧ win2_5.index t 1 = 0 := by decide +kernel

/-- Row (or column) `q` of block `t`. -/
def at2 (t : Fin cfg2.N) (q : Fin 512) : Fin 4096 :=
  ⟨t.val * 512 + q.val, by have h : t.val < 8 := lt_of_lt_of_eq t.isLt N_2; have := q.isLt; omega⟩

variable (V : Val' Ideal)

theorem blk2_0_at (c : Dev nD) (t : Fin cfg2.N) (r : Fin 32) (k : Fin 4096) :
    blk2_0 V c t (ix2 r k) = V c main_v4_0 (ix2 r k) := by
  show V c main_v4_0 (((cfg2.win 0).blk t).view.emb (ix2 r k)) = _
  congr 1
  funext a; fin_cases a <;> apply Fin.ext
  · exact (Window.rect_emb_val win2_0 t (ix2 r k) 0).trans (by rw [(idx2_0 t).1]; exact (by simp : 0 * 32 + r.val = r.val))
  · exact (Window.rect_emb_val win2_0 t (ix2 r k) 1).trans (by rw [(idx2_0 t).2]; exact (by simp : 0 * 4096 + k.val = k.val))

theorem blk2_1_at (c : Dev nD) (t : Fin cfg2.N) (q : Fin 512) (k : Fin 4096) :
    blk2_1 V c t (ix2 q k) = V c main_arg3 (ix2 (at2 t q) k) := by
  show V c main_arg3 (((cfg2.win 1).blk t).view.emb (ix2 q k)) = _
  congr 1
  funext a; fin_cases a <;> apply Fin.ext
  · exact (Window.rect_emb_val win2_1 t (ix2 q k) 0).trans (by rw [(idx2_1 t).1]; rfl)
  · exact (Window.rect_emb_val win2_1 t (ix2 q k) 1).trans (by rw [(idx2_1 t).2]; exact (by simp : 0 * 4096 + k.val = k.val))

theorem blk2_2_at (c : Dev nD) (t : Fin cfg2.N) (q : Fin 512) :
    blk2_2 V c t (ix2 0 q) = V c main_v5 (ix2 0 (at2 t q)) := by
  show V c main_v5 (((cfg2.win 2).blk t).view.emb (ix2 0 q)) = _
  congr 1
  funext a; fin_cases a <;> apply Fin.ext
  · exact (Window.rect_emb_val win2_2 t (ix2 0 q) 0).trans (by rw [(idx2_2 t).1]; rfl)
  · exact (Window.rect_emb_val win2_2 t (ix2 0 q) 1).trans (by rw [(idx2_2 t).2]; rfl)

theorem blk2_3_at (c : Dev nD) (t : Fin cfg2.N) (k : Fin 4) :
    mpAt (blk2_3 V c t) k = V c main_v1 (ix1 k) := by
  have e : mpAt (blk2_3 V c t) k = blk2_3 V c t (ix1 k) := by
    unfold mpAt; congr 1; funext a; fin_cases a; rfl
  rw [e]
  show V c main_v1 (((cfg2.win 3).blk t).view.emb (ix1 k)) = _
  congr 1
  funext a; fin_cases a; apply Fin.ext
  exact (Window.rect_emb_val win2_3 t (ix1 k) 0).trans (by rw [idx2_3 t]; exact (by simp : 0 * 4 + k.val = k.val))

theorem emb2_4 (t : Fin cfg2.N) (r : Fin 32) (q : Fin 512) :
    ((cfg2.win 4).blk t).view.emb (ix2 r q) = (ix2 r (at2 t q) : S32x4096.Idx) := by
  funext a; fin_cases a <;> apply Fin.ext
  · exact (Window.rect_emb_val win2_4 t (ix2 r q) 0).trans (by rw [(idx2_4 t).1]; exact (by simp : 0 * 32 + r.val = r.val))
  · exact (Window.rect_emb_val win2_4 t (ix2 r q) 1).trans (by rw [(idx2_4 t).2]; rfl)

theorem emb2_5 (t : Fin cfg2.N) (q : Fin 512) (k : Fin 4096) :
    ((cfg2.win 5).blk t).view.emb (ix2 q k) = (ix2 (at2 t q) k : S4096x4096.Idx) := by
  funext a; fin_cases a <;> apply Fin.ext
  · exact (Window.rect_emb_val win2_5 t (ix2 q k) 0).trans (by rw [(idx2_5 t).1]; rfl)
  · exact (Window.rect_emb_val win2_5 t (ix2 q k) 1).trans (by rw [(idx2_5 t).2]; exact (by simp : 0 * 4096 + k.val = k.val))

variable (h : Act) (W : Wgt) (b : Bias) (mw : Mix) (mb : Off)

/-- The product block at an index. -/
theorem pay2_at (c : Dev nD) (hh : V c main_v4_0 = h) (hW : V c main_arg3 = W)
    (hb : ∀ q : Fin 4096, V c main_v5 (ix2 0 q) = b (ix1 q)) (t : Fin cfg2.N) (r : Fin 32) (q : Fin 512) :
    k2_pay1 (blk2_0 V c t) (blk2_1 V c t) (blk2_2 V c t) (ix2 r q) = layer h W b (ix2 r (at2 t q)) := by
  rw [pay1_at, blk2_2_at, hb]
  simp only [blk2_0_at, blk2_1_at, hh, hW]
  rfl

/-- The first result array is the layer. -/
theorem out2_4_eq (c : Dev nD) (hh : V c main_v4_0 = h) (hW : V c main_arg3 = W)
    (hb : ∀ q : Fin 4096, V c main_v5 (ix2 0 q) = b (ix1 q)) : out2_4 V c = layer h W b := by
  refine (dat2 V c).arrAt_eq_of_covers 4 _ (by decide +kernel) fun t hf y => ?_
  obtain ⟨r, q, rfl⟩ : ∃ (r : Fin 32) (q : Fin 512), y = ix2 r q := ⟨y 0, y 1, by funext a; fin_cases a <;> rfl⟩
  rw [emb2_4]
  show (dat2 V c).after 4 t (ix2 r q) = _
  rw [after2_4]
  exact pay2_at V h W b c hh hW hb t r q

/-- The second result array is the updated weights. -/
theorem out2_5_eq (c : Dev nD) (hh : V c main_v4_0 = h) (hW : V c main_arg3 = W)
    (hb : ∀ q : Fin 4096, V c main_v5 (ix2 0 q) = b (ix1 q))
    (h0 : V c main_v1 (ix1 0) = mw (ix2 0 0)) (h1 : V c main_v1 (ix1 1) = mw (ix2 0 1))
    (h2 : V c main_v1 (ix1 2) = mw (ix2 0 2)) (h3 : V c main_v1 (ix1 3) = mb (ix1 0)) :
    out2_5 V c = upd h W (layer h W b) mw mb := by
  refine (dat2 V c).arrAt_eq_of_covers 5 _ (by decide +kernel) fun t hf y => ?_
  obtain ⟨q, k, rfl⟩ : ∃ (q : Fin 512) (k : Fin 4096), y = ix2 q k := ⟨y 0, y 1, by funext a; fin_cases a <;> rfl⟩
  rw [emb2_5]
  show (dat2 V c).after 5 t (ix2 q k) = _
  by_cases ht : t.val = 0
  · have hq : at2 t q = ⟨q.val, lt_trans q.isLt (by norm_num)⟩ := Fin.ext (by show t.val * 512 + q.val = q.val; omega)
    rw [after2_5_first V c t ht, fullW_at]
    unfold upd
    by_cases hqk : q.val < 32 ∧ k.val < 32
    · rw [dif_pos hqk, if_pos (by rw [hq]; exact hqk), corner_at, pay2_at V h W b c hh hW hb, blk2_3_at, blk2_3_at, blk2_3_at, blk2_3_at,
        h0, h1, h2, h3, blk2_0_at, blk2_1_at, hh, hW]
      rfl
    · rw [dif_neg hqk, if_neg (by rw [hq]; exact hqk), blk2_1_at, hW]
  · rw [after2_5_later V c t ht, blk2_1_at, hW]
    unfold upd
    rw [if_neg (fun hc => ?_)]
    have : t.val * 512 + q.val < 32 := hc.1
    omega

end Cert.Proof.Tile

end
-- ==== Proof.Value3.lean ====
/-
  The third TensorCore pipeline's result arrays on the extended reals: one layer, and the updated weights.
-/
module

public import proofs.«01_k».proof.Proof.Payload
public import proofs.«01_k».proof.Proof.Region3
public import Idealize.ShloMosaic.Lib.Pipeline.ValueKit

@[expose] public section

noncomputable section

namespace Cert.Proof.Tile

open Cert.KernelIdeal Cert.KernelIdeal.Gen Cert.Proof.Spec
open Idealize.ShloMosaic hiding ix1 ix2
open Idealize.ShloMosaic.ValueIdx Idealize.ShloMosaic.TcCoe
open Idealize.ShloMosaic.Pipeline (Dat Cfg Window)

theorem idx3_0 : ∀ t : Fin grid3.N, win3_0.index t 0 = 0 ∧ win3_0.index t 1 = 0 := by decide +kernel
theorem idx3_1 : ∀ t : Fin grid3.N, win3_1.index t 0 = t.val ∧ win3_1.index t 1 = 0 := by decide +kernel
theorem idx3_2 : ∀ t : Fin grid3.N, win3_2.index t 0 = 0 ∧ win3_2.index t 1 = t.val := by decide +kernel
theorem idx3_3 : ∀ t : Fin grid3.N, win3_3.index t 0 = 0 := by decide +kernel
theorem idx3_4 : ∀ t : Fin grid3.N, win3_4.index t 0 = 0 ∧ win3_4.index t 1 = t.val := by decide +kernel
theorem idx3_5 : ∀ t : Fin grid3.N, win3_5.index t 0 = t.val ∧ win3_5.index t 1 = 0 := by decide +kernel

/-- Row (or column) `q` of block `t`. -/
def at3 (t : Fin cfg3.N) (q : Fin 512) : Fin 4096 :=
  ⟨t.val * 512 + q.val, by have h : t.val < 8 := lt_of_lt_of_eq t.isLt N_3; have := q.isLt; omega⟩

variable (V : Val' Ideal)

theorem blk3_0_at (c : Dev nD) (t : Fin cfg3.N) (r : Fin 32) (k : Fin 4096) :
    blk3_0 V c t (ix2 r k) = V c main_v6_0 (ix2 r k) := by
  show V c main_v6_0 (((cfg3.win 0).blk t).view.emb (ix2 r k)) = _
  congr 1
  funext a; fin_cases a <;> apply Fin.ext
  · exact (Window.rect_emb_val win3_0 t (ix2 r k) 0).trans (by rw [(idx3_0 t).1]; exact (by simp : 0 * 32 + r.val = r.val))
  · exact (Window.rect_emb_val win3_0 t (ix2 r k) 1).trans (by rw [(idx3_0 t).2]; exact (by simp : 0 * 4096 + k.val = k.val))

theorem blk3_1_at (c : Dev nD) (t : Fin cfg3.N) (q : Fin 512) (k : Fin 4096) :
    blk3_1 V c t (ix2 q k) = V c main_arg5 (ix2 (at3 t q) k) := by
  show V c main_arg5 (((cfg3.win 1).blk t).view.emb (ix2 q k)) = _
  congr 1
  funext a; fin_cases a <;> apply Fin.ext
  · exact (Window.rect_emb_val win3_1 t (ix2 q k) 0).trans (by rw [(idx3_1 t).1]; rfl)
  · exact (Window.rect_emb_val win3_1 t (ix2 q k) 1).trans (by rw [(idx3_1 t).2]; exact (by simp : 0 * 4096 + k.val = k.val))

theorem blk3_2_at (c : Dev nD) (t : Fin cfg3.N) (q : Fin 512) :
    blk3_2 V c t (ix2 0 q) = V c main_v7 (ix2 0 (at3 t q)) := by
  show V c main_v7 (((cfg3.win 2).blk t).view.emb (ix2 0 q)) = _
  congr 1
  funext a; fin_cases a <;> apply Fin.ext
  · exact (Window.rect_emb_val win3_2 t (ix2 0 q) 0).trans (by rw [(idx3_2 t).1]; rfl)
  · exact (Window.rect_emb_val win3_2 t (ix2 0 q) 1).trans (by rw [(idx3_2 t).2]; rfl)

theorem blk3_3_at (c : Dev nD) (t : Fin cfg3.N) (k : Fin 4) :
    mpAt (blk3_3 V c t) k = V c main_v1 (ix1 k) := by
  have e : mpAt (blk3_3 V c t) k = blk3_3 V c t (ix1 k) := by
    unfold mpAt; congr 1; funext a; fin_cases a; rfl
  rw [e]
  show V c main_v1 (((cfg3.win 3).blk t).view.emb (ix1 k)) = _
  congr 1
  funext a; fin_cases a; apply Fin.ext
  exact (Window.rect_emb_val win3_3 t (ix1 k) 0).trans (by rw [idx3_3 t]; exact (by simp : 0 * 4 + k.val = k.val))

theorem emb3_4 (t : Fin cfg3.N) (r : Fin 32) (q : Fin 512) :
    ((cfg3.win 4).blk t).view.emb (ix2 r q) = (ix2 r (at3 t q) : S32x4096.Idx) := by
  funext a; fin_cases a <;> apply Fin.ext
  · exact (Window.rect_emb_val win3_4 t (ix2 r q) 0).trans (by rw [(idx3_4 t).1]; exact (by simp : 0 * 32 + r.val = r.val))
  · exact (Window.rect_emb_val win3_4 t (ix2 r q) 1).trans (by rw [(idx3_4 t).2]; rfl)

theorem emb3_5 (t : Fin cfg3.N) (q : Fin 512) (k : Fin 4096) :
    ((cfg3.win 5).blk t).view.emb (ix2 q k) = (ix2 (at3 t q) k : S4096x4096.Idx) := by
  funext a; fin_cases a <;> apply Fin.ext
  · exact (Window.rect_emb_val win3_5 t (ix2 q k) 0).trans (by rw [(idx3_5 t).1]; rfl)
  · exact (Window.rect_emb_val win3_5 t (ix2 q k) 1).trans (by rw [(idx3_5 t).2]; exact (by simp : 0 * 4096 + k.val = k.val))

variable (h : Act) (W : Wgt) (b : Bias) (mw : Mix) (mb : Off)

/-- The product block at an index. -/
theorem pay3_at (c : Dev nD) (hh : V c main_v6_0 = h) (hW : V c main_arg5 = W)
    (hb : ∀ q : Fin 4096, V c main_v7 (ix2 0 q) = b (ix1 q)) (t : Fin cfg3.N) (r : Fin 32) (q : Fin 512) :
    k2_pay1 (blk3_0 V c t) (blk3_1 V c t) (blk3_2 V c t) (ix2 r q) = layer h W b (ix2 r (at3 t q)) := by
  rw [pay1_at, blk3_2_at, hb]
  simp only [blk3_0_at, blk3_1_at, hh, hW]
  rfl

/-- The first result array is the layer. -/
theorem out3_4_eq (c : Dev nD) (hh : V c main_v6_0 = h) (hW : V c main_arg5 = W)
    (hb : ∀ q : Fin 4096, V c main_v7 (ix2 0 q) = b (ix1 q)) : out3_4 V c = layer h W b := by
  refine (dat3 V c).arrAt_eq_of_covers 4 _ (by decide +kernel) fun t hf y => ?_
  obtain ⟨r, q, rfl⟩ : ∃ (r : Fin 32) (q : Fin 512), y = ix2 r q := ⟨y 0, y 1, by funext a; fin_cases a <;> rfl⟩
  rw [emb3_4]
  show (dat3 V c).after 4 t (ix2 r q) = _
  rw [after3_4]
  exact pay3_at V h W b c hh hW hb t r q

/-- The second result array is the updated weights. -/
theorem out3_5_eq (c : Dev nD) (hh : V c main_v6_0 = h) (hW : V c main_arg5 = W)
    (hb : ∀ q : Fin 4096, V c main_v7 (ix2 0 q) = b (ix1 q))
    (h0 : V c main_v1 (ix1 0) = mw (ix2 0 0)) (h1 : V c main_v1 (ix1 1) = mw (ix2 0 1))
    (h2 : V c main_v1 (ix1 2) = mw (ix2 0 2)) (h3 : V c main_v1 (ix1 3) = mb (ix1 0)) :
    out3_5 V c = upd h W (layer h W b) mw mb := by
  refine (dat3 V c).arrAt_eq_of_covers 5 _ (by decide +kernel) fun t hf y => ?_
  obtain ⟨q, k, rfl⟩ : ∃ (q : Fin 512) (k : Fin 4096), y = ix2 q k := ⟨y 0, y 1, by funext a; fin_cases a <;> rfl⟩
  rw [emb3_5]
  show (dat3 V c).after 5 t (ix2 q k) = _
  by_cases ht : t.val = 0
  · have hq : at3 t q = ⟨q.val, lt_trans q.isLt (by norm_num)⟩ := Fin.ext (by show t.val * 512 + q.val = q.val; omega)
    rw [after3_5_first V c t ht, fullW_at]
    unfold upd
    by_cases hqk : q.val < 32 ∧ k.val < 32
    · rw [dif_pos hqk, if_pos (by rw [hq]; exact hqk), corner_at, pay3_at V h W b c hh hW hb, blk3_3_at, blk3_3_at, blk3_3_at, blk3_3_at,
        h0, h1, h2, h3, blk3_0_at, blk3_1_at, hh, hW]
      rfl
    · rw [dif_neg hqk, if_neg (by rw [hq]; exact hqk), blk3_1_at, hW]
  · rw [after3_5_later V c t ht, blk3_1_at, hW]
    unfold upd
    rw [if_neg (fun hc => ?_)]
    have : t.val * 512 + q.val < 32 := hc.1
    omega

end Cert.Proof.Tile

end
-- ==== Proof.Chain.lean ====
/-
  What @main leaves in its four result arrays on the extended reals, as the problem's mathematics of its arguments.
-/
module

public import proofs.«01_k».proof.Proof.Value1
public import proofs.«01_k».proof.Proof.Value2
public import proofs.«01_k».proof.Proof.Value3
public import proofs.«01_k».proof.Proof.Frames

@[expose] public section

noncomputable section

namespace Cert.Proof.Tile

open Cert.KernelIdeal Cert.KernelIdeal.Gen Cert.Proof.Spec
open Idealize.ShloMosaic hiding ix1 ix2 eq_ix2
open Idealize.ShloMosaic.ValueIdx Idealize.ShloMosaic.TcCoe

variable (m : (ℓ : Loc nD τ sig) → Buf (Elt Ideal) ℓ) (d : Dev nD)

/-! The arguments, and the activations after each layer. -/

def x0 : Act := m ((d.tc : Thread nD τ).loc main_arg0)
def w1 : Wgt := m ((d.tc : Thread nD τ).loc main_arg1)
def b1 : Bias := m ((d.tc : Thread nD τ).loc main_arg2)
def w2 : Wgt := m ((d.tc : Thread nD τ).loc main_arg3)
def b2 : Bias := m ((d.tc : Thread nD τ).loc main_arg4)
def w3 : Wgt := m ((d.tc : Thread nD τ).loc main_arg5)
def b3 : Bias := m ((d.tc : Thread nD τ).loc main_arg6)
def mw : Mix := m ((d.tc : Thread nD τ).loc main_arg7)
def mb : Off := m ((d.tc : Thread nD τ).loc main_arg8)
def h1 : Act := layer (x0 m d) (w1 m d) (b1 m d)
def h2 : Act := layer (h1 m d) (w2 m d) (b2 m d)
def h3 : Act := layer (h2 m d) (w3 m d) (b3 m d)

/-! The packed mixing weights. -/

theorem W1_v0 (k : Fin 3) : (opA (F := Ideal)).result (W0 m d) (Proc.devRef .tc main_v0) (ix1 k) = mw m d (ix2 0 k) := by
  have e : (opA (F := Ideal)).result (W0 m d) (Proc.devRef .tc main_v0) = shapeCast S3 (mw m d) shapeCasts_S1x3_S3 :=
    StableHlo.reshape_result main_arg7 main_v0 _ _ _ _ (W0 m d)
  rw [e]
  exact shapeCast_apply _ _ _ (ix2 0 k) (by rw [Shape.rowMajor_val_one, Shape.rowMajor_val_two]; exact (by simp : 0 * 3 + k.val = k.val))

theorem W1_v1 : W1 m d (Proc.devRef .tc main_v1)
    = concatenate S4 0 [⟨S3, (opA (F := Ideal)).result (W0 m d) (Proc.devRef .tc main_v0)⟩, ⟨S1, mb m d⟩] concatenates_S3_S1_S4_d0 := by
  have e : (opA (F := Ideal)).result (W0 m d) (Proc.devRef .tc main_arg8) = mb m d :=
    StableHlo.result_of_writes_ne opA _ main_v0 main_arg8 rfl (by decide)
  rw [← e]
  exact StableHlo.binary_result main_v0 main_arg8 main_v1 _ _ _ _ _

theorem W1_v1_mw (k : Fin 3) : W1 m d (Proc.devRef .tc main_v1) (ix1 (⟨k.val, lt_trans k.isLt (by norm_num)⟩ : Fin 4)) = mw m d (ix2 0 k) := by
  rw [W1_v1]
  refine (concatenate_pair_apply_left (t := S4) (s₁ := S3) (s₂ := S1) 0 _ _ _ _ rfl (ix1 k) (fun b => match b with | ⟨0, _⟩ => rfl)).trans ?_
  exact W1_v0 m d k

theorem W1_v1_mb : W1 m d (Proc.devRef .tc main_v1) (ix1 (3 : Fin 4)) = mb m d (ix1 0) := by
  rw [W1_v1]
  exact concatenate_pair_apply_right (t := S4) (s₁ := S3) (s₂ := S1) 0 _ _ _ _ rfl rfl (ix1 (0 : Fin 1)) (fun b hb => match b with | ⟨0, _⟩ => absurd rfl hb) rfl

/-! A bias spread along a row. -/

theorem row_at (b : Bias) (q : Fin 4096) : broadcastInDim S1x4096 ![1] bcast_S4096_S1x4096_1 b (ix2 0 q) = b (ix1 q) :=
  broadcastInDim_apply _ _ _ _ _ (fun a => match a with | ⟨0, _⟩ => rfl)

/-! The first pipeline. -/

theorem W3_v1 : W3 m d (Proc.devRef .tc main_v1) = W1 m d (Proc.devRef .tc main_v1) := by
  rw [keep3 m d _ (by decide), keep2 m d _ (by decide)]
theorem W3_v3 (q : Fin 4096) : W3 m d (Proc.devRef .tc main_v3) (ix2 0 q) = b1 m d (ix1 q) := by
  have e : W3 m d (Proc.devRef .tc main_v3) = broadcastInDim S1x4096 ![1] bcast_S4096_S1x4096_1 (W2 m d (Proc.devRef .tc main_arg2)) :=
    StableHlo.unary_result main_arg2 main_v3 _ _ _ (W2 m d)
  rw [e, keep2 m d _ (by decide), keep1 m d _ (by decide) (by decide)]
  exact row_at (b1 m d) q
theorem W3_x : W3 m d (Proc.devRef .tc main_arg0) = x0 m d := by
  rw [keep3 m d _ (by decide), keep2 m d _ (by decide), keep1 m d _ (by decide) (by decide)]; rfl
theorem W3_w : W3 m d (Proc.devRef .tc main_arg1) = w1 m d := by
  rw [keep3 m d _ (by decide), keep2 m d _ (by decide), keep1 m d _ (by decide) (by decide)]; rfl

theorem W4_h : W4 m d (Proc.devRef .tc main_v4_0) = h1 m d :=
  (upd2_fst _ _ _ (by decide) _ _).trans (out1_4_eq (asV (W3 m)) (x0 m d) (w1 m d) (b1 m d) d (W3_x m d) (W3_w m d) (W3_v3 m d))
theorem W4_s : W4 m d (Proc.devRef .tc main_v4_1) = fun i : S32x4096.Idx =>
    upd (x0 m d) (w1 m d) (h1 m d) (mw m d) (mb m d) (ix2 ⟨(i 0).val, lt_trans (i 0).isLt (by norm_num)⟩ ⟨(i 1).val, (i 1).isLt⟩) :=
  (upd2_snd _ _ _ _ _).trans (out1_5_eq (asV (W3 m)) (x0 m d) (w1 m d) (b1 m d) (mw m d) (mb m d) d (W3_x m d) (W3_w m d) (W3_v3 m d)
    ((congrFun (W3_v1 m d) _).trans (W1_v1_mw m d 0)) ((congrFun (W3_v1 m d) _).trans (W1_v1_mw m d 1))
    ((congrFun (W3_v1 m d) _).trans (W1_v1_mw m d 2)) ((congrFun (W3_v1 m d) _).trans (W1_v1_mb m d)))

/-! The second pipeline. -/

theorem W5_v1 : W5 m d (Proc.devRef .tc main_v1) = W1 m d (Proc.devRef .tc main_v1) := by
  rw [keep5 m d _ (by decide), keep4 m d _ (by decide) (by decide), W3_v1]
theorem W5_v5 (q : Fin 4096) : W5 m d (Proc.devRef .tc main_v5) (ix2 0 q) = b2 m d (ix1 q) := by
  have e : W5 m d (Proc.devRef .tc main_v5) = broadcastInDim S1x4096 ![1] bcast_S4096_S1x4096_1 (W4 m d (Proc.devRef .tc main_arg4)) :=
    StableHlo.unary_result main_arg4 main_v5 _ _ _ (W4 m d)
  rw [e, keep4 m d _ (by decide) (by decide), keep3 m d _ (by decide), keep2 m d _ (by decide), keep1 m d _ (by decide) (by decide)]
  exact row_at (b2 m d) q
theorem W5_h : W5 m d (Proc.devRef .tc main_v4_0) = h1 m d := (keep5 m d _ (by decide)).trans (W4_h m d)
theorem W5_w : W5 m d (Proc.devRef .tc main_arg3) = w2 m d := by
  rw [keep5 m d _ (by decide), keep4 m d _ (by decide) (by decide), keep3 m d _ (by decide), keep2 m d _ (by decide), keep1 m d _ (by decide) (by decide)]; rfl

theorem W6_h : W6 m d (Proc.devRef .tc main_v6_0) = h2 m d :=
  (upd2_fst _ _ _ (by decide) _ _).trans (out2_4_eq (asV (W5 m)) (h1 m d) (w2 m d) (b2 m d) d (W5_h m d) (W5_w m d) (W5_v5 m d))
theorem W6_w : W6 m d (Proc.devRef .tc main_v6_1) = upd (h1 m d) (w2 m d) (h2 m d) (mw m d) (mb m d) :=
  (upd2_snd _ _ _ _ _).trans (out2_5_eq (asV (W5 m)) (h1 m d) (w2 m d) (b2 m d) (mw m d) (mb m d) d (W5_h m d) (W5_w m d) (W5_v5 m d)
    ((congrFun (W5_v1 m d) _).trans (W1_v1_mw m d 0)) ((congrFun (W5_v1 m d) _).trans (W1_v1_mw m d 1))
    ((congrFun (W5_v1 m d) _).trans (W1_v1_mw m d 2)) ((congrFun (W5_v1 m d) _).trans (W1_v1_mb m d)))

/-! The third pipeline. -/

theorem W7_v1 : W7 m d (Proc.devRef .tc main_v1) = W1 m d (Proc.devRef .tc main_v1) := by
  rw [keep7 m d _ (by decide), keep6 m d _ (by decide) (by decide), W5_v1]
theorem W7_v7 (q : Fin 4096) : W7 m d (Proc.devRef .tc main_v7) (ix2 0 q) = b3 m d (ix1 q) := by
  have e : W7 m d (Proc.devRef .tc main_v7) = broadcastInDim S1x4096 ![1] bcast_S4096_S1x4096_1 (W6 m d (Proc.devRef .tc main_arg6)) :=
    StableHlo.unary_result main_arg6 main_v7 _ _ _ (W6 m d)
  rw [e, keep6 m d _ (by decide) (by decide), keep5 m d _ (by decide), keep4 m d _ (by decide) (by decide), keep3 m d _ (by decide),
    keep2 m d _ (by decide), keep1 m d _ (by decide) (by decide)]
  exact row_at (b3 m d) q
theorem W7_h : W7 m d (Proc.devRef .tc main_v6_0) = h2 m d := (keep7 m d _ (by decide)).trans (W6_h m d)
theorem W7_w : W7 m d (Proc.devRef .tc main_arg5) = w3 m d := by
  rw [keep7 m d _ (by decide), keep6 m d _ (by decide) (by decide), keep5 m d _ (by decide), keep4 m d _ (by decide) (by decide),
    keep3 m d _ (by decide), keep2 m d _ (by decide), keep1 m d _ (by decide) (by decide)]; rfl

theorem W8_h : W8 m d (Proc.devRef .tc main_v8_0) = h3 m d :=
  (upd2_fst _ _ _ (by decide) _ _).trans (out3_4_eq (asV (W7 m)) (h2 m d) (w3 m d) (b3 m d) d (W7_h m d) (W7_w m d) (W7_v7 m d))
theorem W8_w : W8 m d (Proc.devRef .tc main_v8_1) = upd (h2 m d) (w3 m d) (h3 m d) (mw m d) (mb m d) :=
  (upd2_snd _ _ _ _ _).trans (out3_5_eq (asV (W7 m)) (h2 m d) (w3 m d) (b3 m d) (mw m d) (mb m d) d (W7_h m d) (W7_w m d) (W7_v7 m d)
    ((congrFun (W7_v1 m d) _).trans (W1_v1_mw m d 0)) ((congrFun (W7_v1 m d) _).trans (W1_v1_mw m d 1))
    ((congrFun (W7_v1 m d) _).trans (W1_v1_mw m d 2)) ((congrFun (W7_v1 m d) _).trans (W1_v1_mb m d)))

/-! The results. -/

theorem W9_h : W9 m d (Proc.devRef .tc main_v8_0) = h3 m d :=
  (keep9 m d _ (by decide) (by decide) (by decide)).trans (W8_h m d)
theorem W9_w3 : W9 m d (Proc.devRef .tc main_v8_1) = upd (h2 m d) (w3 m d) (h3 m d) (mw m d) (mb m d) :=
  (keep9 m d _ (by decide) (by decide) (by decide)).trans (W8_w m d)
theorem W9_w2 : W9 m d (Proc.devRef .tc main_v6_1) = upd (h1 m d) (w2 m d) (h2 m d) (mw m d) (mb m d) :=
  (keep9 m d _ (by decide) (by decide) (by decide)).trans
    ((keep8 m d _ (by decide) (by decide)).trans ((keep7 m d _ (by decide)).trans (W6_w m d)))

/-- The SparseCores' copy of the first weights. -/
theorem W8_v2 : W8 m d (Proc.devRef .tc main_v2) = w1 m d := by
  rw [keep8 m d _ (by decide) (by decide), keep7 m d _ (by decide), keep6 m d _ (by decide) (by decide), keep5 m d _ (by decide),
    keep4 m d _ (by decide) (by decide), keep3 m d _ (by decide)]
  exact Function.update_self ..
theorem W8_v4 : W8 m d (Proc.devRef .tc main_v4_1) = W4 m d (Proc.devRef .tc main_v4_1) := by
  rw [keep8 m d _ (by decide) (by decide), keep7 m d _ (by decide), keep6 m d _ (by decide) (by decide), keep5 m d _ (by decide)]

/-- The stripe written over the leading rows of the copy. -/
theorem stripe_over (x : Wgt) (u : S32x4096.Idx → EReal) (st : Fin 2 → Int) (hs : ∀ a, st a = 0) (G : Wgt)
    (hu : ∀ (r : Fin 32) (c : Fin 4096), u (ix2 r c) = G (ix2 ⟨r.val, lt_trans r.isLt (by norm_num)⟩ c))
    (hx : ∀ r c : Fin 4096, ¬ r.val < 32 → x (ix2 r c) = G (ix2 r c)) :
    Host.dynamicUpdateSlice (s := S4096x4096) x u st updateFits_S4096x4096_S32x4096 = G := by
  funext i
  obtain ⟨r, c, rfl⟩ : ∃ r c : Fin 4096, i = ix2 r c := ⟨i 0, i 1, eq_ix2 i⟩
  have h0 : Host.clampedStart S4096x4096 S32x4096 updateFits_S4096x4096_S32x4096.1 st 0 = 0 :=
    Host.clampedStart_of_le _ _ _ _ (hs 0) (by decide)
  have h1 : Host.clampedStart S4096x4096 S32x4096 updateFits_S4096x4096_S32x4096.1 st 1 = 0 :=
    Host.clampedStart_of_le _ _ _ _ (hs 1) (by decide)
  rw [Host.dynamicUpdateSlice_apply]
  by_cases hr : r.val < 32
  · rw [dif_pos (fun a => match a with
      | ⟨0, _⟩ => by rw [show (⟨0, _⟩ : Fin S4096x4096.rank) = 0 from rfl, h0]; exact ⟨Nat.zero_le _, (by omega : r.val < 0 + 32)⟩
      | ⟨1, _⟩ => by rw [show (⟨1, _⟩ : Fin S4096x4096.rank) = 1 from rfl, h1]; exact ⟨Nat.zero_le _, (by have := c.isLt; omega : c.val < 0 + 4096)⟩)]
    refine Eq.trans (congrArg u ?_) (hu ⟨r.val, hr⟩ c)
    funext a; apply Fin.ext
    match a with
    | ⟨0, _⟩ => exact congrArg (r.val - ·) h0
    | ⟨1, _⟩ => exact congrArg (c.val - ·) h1
  · rw [dif_neg (fun hc => hr ?_)]
    · exact hx r c hr
    · have := (hc 0).2
      rw [h0] at this
      have : r.val < 0 + 32 := this
      omega

theorem W9_w1 : W9 m d (Proc.devRef .tc main_v9) = upd (x0 m d) (w1 m d) (h1 m d) (mw m d) (mb m d) := by
  let F := (opG (F := Ideal)).result ((opF (F := Ideal)).result (W8 m d))
  have e := StableHlo.binaryIndexed_result (Val := Elt Ideal) main_v2 main_v4_1 ![main_c, main_c_0] ⟨S_, .i32⟩ main_v9
    ((fun x u i => Host.dynamicUpdateSlice x u (fun k => (i k (Shape.Idx.first h_S_)).toInt) updateFits_S4096x4096_S32x4096) : (⟨S4096x4096, .f32⟩ : BufTy).Contents (Elt Ideal) → (⟨S32x4096, .f32⟩ : BufTy).Contents (Elt Ideal) → (Fin 2 → (⟨S_, .i32⟩ : BufTy).Contents (Elt Ideal)) → (⟨S4096x4096, .f32⟩ : BufTy).Contents (Elt Ideal))
    (by decide) (by decide) (by decide) (by decide) (by decide) F
  refine e.trans ?_
  have ec : F (Proc.devRef .tc main_c) = constantI S_ 32 0#32 :=
    (StableHlo.result_of_writes_ne opG _ main_c_0 main_c rfl (by decide)).trans (StableHlo.nullary_result main_c _ _ _)
  have ec0 : F (Proc.devRef .tc main_c_0) = constantI S_ 32 0#32 := StableHlo.nullary_result main_c_0 _ _ _
  have e2 : F (Proc.devRef .tc main_v2) = w1 m d :=
    (StableHlo.result_of_writes_ne opG _ main_c_0 main_v2 rfl (by decide)).trans
      ((StableHlo.result_of_writes_ne opF _ main_c main_v2 rfl (by decide)).trans (W8_v2 m d))
  have e4 : F (Proc.devRef .tc main_v4_1) = W4 m d (Proc.devRef .tc main_v4_1) :=
    (StableHlo.result_of_writes_ne opG _ main_c_0 main_v4_1 rfl (by decide)).trans
      ((StableHlo.result_of_writes_ne opF _ main_c main_v4_1 rfl (by decide)).trans (W8_v4 m d))
  refine stripe_over _ _ _ (fun a => ?_) _ (fun r c => ?_) (fun r c hr => ?_)
  · match a with
    | ⟨0, _⟩ =>
      show ((F (Proc.devRef .tc main_c) : (⟨S_, .i32⟩ : BufTy).Contents (Elt Ideal)) (Shape.Idx.first h_S_)).toInt = 0
      rw [ec]; rfl
    | ⟨1, _⟩ =>
      show ((F (Proc.devRef .tc main_c_0) : (⟨S_, .i32⟩ : BufTy).Contents (Elt Ideal)) (Shape.Idx.first h_S_)).toInt = 0
      rw [ec0]; rfl
  · exact congrFun (e4.trans (W4_s m d)) (ix2 r c)
  · refine (congrFun e2 (ix2 r c)).trans ?_
    unfold upd
    rw [if_neg (fun hc => hr hc.1)]

/-- After the run the four result arrays hold the output of the layers and the updated weights. -/
theorem results {r : PUnit × MemSt nD τ sig (Elt Ideal)} (h : QC m r) :
    r.2.mem ((d.tc : Thread nD τ).loc main_v8_0) = h3 m d
    ∧ r.2.mem ((d.tc : Thread nD τ).loc main_v9) = upd (x0 m d) (w1 m d) (h1 m d) (mw m d) (mb m d)
    ∧ r.2.mem ((d.tc : Thread nD τ).loc main_v6_1) = upd (h1 m d) (w2 m d) (h2 m d) (mw m d) (mb m d)
    ∧ r.2.mem ((d.tc : Thread nD τ).loc main_v8_1) = upd (h2 m d) (w3 m d) (h3 m d) (mw m d) (mb m d) :=
  ⟨(h.1 d (Proc.devRef .tc main_v8_0) (by decide)).trans (W9_h m d), (h.1 d (Proc.devRef .tc main_v9) (by decide)).trans (W9_w1 m d),
   (h.1 d (Proc.devRef .tc main_v6_1) (by decide)).trans (W9_w2 m d), (h.1 d (Proc.devRef .tc main_v8_1) (by decide)).trans (W9_w3 m d)⟩

end Cert.Proof.Tile

end
-- ==== Proof.RefValue.lean ====
/-
  The reference's four results are the layers and the updates of the specification.
-/
module

public import proofs.«01_k».proof.Proof.Spec
public import proofs.«01_k».proof.Proof.Gen.ReferenceIdeal.Read
public import Idealize.ShloMosaic.Lib.Routing.OpsSet
public import Idealize.ShloMosaic.Lib.Routing.OpsOne
public import Idealize.ShloMosaic.Lib.Routing.OpsPair

@[expose] public section

noncomputable section

namespace Cert.Proof.RefValue

open Cert.ReferenceIdeal Cert.ReferenceIdeal.Gen Cert.ReferenceIdeal.Read Cert.Proof.Spec
open Idealize.ShloMosaic Idealize.ShloMosaic.ValueIdx

/-- The first layer. -/
theorem layer_eq (x0 : Act) (x1 : Wgt) (x2 : Bias) : val_main_v5 (F := Ideal) x0 x1 x2 = layer x0 x1 x2 := by
  funext i
  rw [val_main_v5_apply, val_main_v4_apply, val_main_v1_apply, val_main_v3_apply, val_main_v2_apply, val_main_call0_v0_apply, val_main_call0_cst_apply]
  have e0 : (FloatOps.ofBits (F := Ideal) .f32 0x00000000#32 : EReal) = 0 := Ideal.ofBits_zero_f32
  have e1 : ∀ k : Fin 4096, x0 (lidx_main_v1 i k) * (val_main_v0 (F := Ideal) x1) (ridx_main_v1 i k) = x0 (ix2 (i 0) k) * x1 (ix2 (i 1) k) := fun k => by
    rw [val_main_v0_apply]
    have a : lidx_main_v1 i k = ix2 (i 0) k := funext fun a => match a with | ⟨0, _⟩ => rfl | ⟨1, _⟩ => rfl
    have b : idx_main_v0 (ridx_main_v1 i k) = ix2 (i 1) k := funext fun a => match a with | ⟨0, _⟩ => rfl | ⟨1, _⟩ => rfl
    rw [a, b]; rfl
  have e2 : idx_main_v2 (idx_main_v3 i) = ix1 (i 1) := funext fun a => match a with | ⟨0, _⟩ => rfl
  rw [Finset.sum_congr rfl fun k _ => e1 k, e0, e2]
  rfl

theorem layer2_eq (x0 : Act) (x1 : Wgt) (x2 : Bias) (x3 : Wgt) (x4 : Bias) :
    val_main_v11 (F := Ideal) x0 x1 x2 x3 x4 = layer (layer x0 x1 x2) x3 x4 := by
  rw [← layer_eq x0, ← layer_eq]; rfl

theorem layer3_eq (x0 : Act) (x1 : Wgt) (x2 : Bias) (x3 : Wgt) (x4 : Bias) (x5 : Wgt) (x6 : Bias) :
    val_main_v17 (F := Ideal) x0 x1 x2 x3 x4 x5 x6 = layer (layer (layer x0 x1 x2) x3 x4) x5 x6 := by
  rw [← layer2_eq, ← layer_eq]; rfl

/-- The triples of the patch of input `h`, weights `W` and output `o`, as the reference stacks them. -/
def trip (h : Act) (W : Wgt) (o : Act) : (⟨S32x32x3, .f32⟩ : BufTy).Contents (Elt Ideal) :=
  concatenate S32x32x3 2 [⟨S32x32x1, (val_main_v27 (F := Ideal) h : (⟨S32x32x1, .f32⟩ : BufTy).Contents (Elt Ideal))⟩,
    ⟨S32x32x1, (val_main_v28 (F := Ideal) W : (⟨S32x32x1, .f32⟩ : BufTy).Contents (Elt Ideal))⟩,
    ⟨S32x32x1, (broadcastInDim S32x32x1 ![0, 1] bcast_S32x32_S32x32x1_0_1 (broadcastInDim S32x32 ![0, 1] bcast_S32x1_S32x32_0_1
      (broadcastInDim S32x1 ![0] bcast_S32_S32x1_0 (val_main_v19 (F := Ideal) o))) : (⟨S32x32x1, .f32⟩ : BufTy).Contents (Elt Ideal))⟩]
    concatenates_S32x32x1_S32x32x1_S32x32x1_S32x32x3_d2

/-- The patch. -/
def patch (h : Act) (W : Wgt) (o : Act) (mw : Mix) (mb : Off) : (⟨S32x32, .f32⟩ : BufTy).Contents (Elt Ideal) :=
  addf (F := Ideal) (Host.dotGeneral (F := Ideal) (φ₁ := .f32) (φ₂ := .f32) dot_S32x32x3_S3_S32x32_2_0_01_n_n_n none (trip h W o) (val_main_v31 (F := Ideal) mw)) (val_main_v34 (F := Ideal) mb)

/-- The updated weights, as the reference computes them. -/
def refUpd (h : Act) (W : Wgt) (o : Act) (mw : Mix) (mb : Off) : Wgt :=
  Host.scatter scatter_S4096x4096_S2_S32x32_01_n_01_0 (fun _ b => b) W (val_main_v38 (F := Ideal)) (patch h W o mw mb)

theorem v39_refUpd (x0 : Act) (x1 : Wgt) (x2 : Bias) (x7 : Mix) (x8 : Off) :
    val_main_v39 (F := Ideal) x0 x1 x2 x7 x8 = refUpd x0 x1 (val_main_v5 (F := Ideal) x0 x1 x2) x7 x8 := rfl
theorem v61_refUpd (x0 : Act) (x1 : Wgt) (x2 : Bias) (x3 : Wgt) (x4 : Bias) (x7 : Mix) (x8 : Off) :
    val_main_v61 (F := Ideal) x0 x1 x2 x3 x4 x7 x8
      = refUpd (val_main_v5 (F := Ideal) x0 x1 x2) x3 (val_main_v11 (F := Ideal) x0 x1 x2 x3 x4) x7 x8 := rfl
theorem v83_refUpd (x0 : Act) (x1 : Wgt) (x2 : Bias) (x3 : Wgt) (x4 : Bias) (x5 : Wgt) (x6 : Bias) (x7 : Mix) (x8 : Off) :
    val_main_v83 (F := Ideal) x0 x1 x2 x3 x4 x5 x6 x7 x8
      = refUpd (val_main_v11 (F := Ideal) x0 x1 x2 x3 x4) x5 (val_main_v17 (F := Ideal) x0 x1 x2 x3 x4 x5 x6) x7 x8 := rfl

/-- A coordinate of the corner as a coordinate of the matrix. -/
abbrev up (r : Fin 32) : Fin 4096 := ⟨r.val, by omega⟩

theorem v19_at (h : Act) (r : Fin 32) : val_main_v19 (F := Ideal) h (ix1 r) = h (ix2 0 (up r)) := by
  rw [val_main_v19_apply, val_main_v18_apply]
  refine congrArg h (funext fun a => Fin.ext ?_)
  match a with
  | ⟨0, _⟩ => rfl
  | ⟨1, _⟩ => exact Nat.mod_eq_of_lt r.isLt

theorem trip_0 (h : Act) (W : Wgt) (o : Act) (r c : Fin 32) : trip h W o (ix3 r c 0) = h (ix2 0 (up c)) := by
  unfold trip
  refine (concatenate_apply_piece (t := S32x32x3) 2 _ _ (ix3 r c 0) 0 (by simp) S32x32x1 _ rfl rfl 0 (by simp) (ix3 r c 0) (fun b _ => match b with
    | ⟨0, _⟩ => rfl
    | ⟨1, _⟩ => rfl
    | ⟨2, _⟩ => rfl) rfl).trans ?_
  rw [val_main_v27_apply, val_main_v24_apply, val_main_v23_apply]
  exact (congrArg _ (funext fun a => match a with | ⟨0, _⟩ => rfl)).trans (v19_at h c)

theorem trip_1 (h : Act) (W : Wgt) (o : Act) (r c : Fin 32) : trip h W o (ix3 r c 1) = W (ix2 (up r) (up c)) := by
  unfold trip
  refine (concatenate_apply_piece (t := S32x32x3) 2 _ _ (ix3 r c 1) 1 (by simp) S32x32x1 _ rfl rfl 1 (by simp) (ix3 r c 0) (fun b hb => match b with
    | ⟨0, _⟩ => rfl
    | ⟨1, _⟩ => rfl
    | ⟨2, _⟩ => absurd rfl hb) rfl).trans ?_
  rw [val_main_v28_apply, val_main_v22_apply]
  exact congrArg W (funext fun a => match a with | ⟨0, _⟩ => rfl | ⟨1, _⟩ => rfl)

theorem trip_2 (h : Act) (W : Wgt) (o : Act) (r c : Fin 32) : trip h W o (ix3 r c 2) = o (ix2 0 (up r)) := by
  unfold trip
  refine (concatenate_apply_piece (t := S32x32x3) 2 _ _ (ix3 r c 2) 2 (by simp) S32x32x1 _ rfl rfl 2 (by simp) (ix3 r c 0) (fun b hb => match b with
    | ⟨0, _⟩ => rfl
    | ⟨1, _⟩ => rfl
    | ⟨2, _⟩ => absurd rfl hb) rfl).trans ?_
  refine (broadcastInDim_apply _ bcast_S32x32_S32x32x1_0_1 _ _ (ix2 r c) fun a => match a with
    | ⟨0, _⟩ => rfl
    | ⟨1, _⟩ => rfl).trans ?_
  refine (broadcastInDim_apply _ bcast_S32x1_S32x32_0_1 _ _ (ix2 r 0) fun a => match a with
    | ⟨0, _⟩ => rfl
    | ⟨1, _⟩ => rfl).trans ?_
  exact (broadcastInDim_apply _ bcast_S32_S32x1_0 _ _ (ix1 r) fun a => match a with
    | ⟨0, _⟩ => rfl).trans (v19_at o r)

theorem v31_at (mw : Mix) (k : Fin 3) : val_main_v31 (F := Ideal) mw (ix1 k) = mw (ix2 0 k) := by
  rw [val_main_v31_apply]
  refine congrArg mw (funext fun a => Fin.ext ?_)
  match a with
  | ⟨0, _⟩ => rfl
  | ⟨1, _⟩ => exact Nat.mod_eq_of_lt k.isLt

theorem v34_at (mb : Off) (i : S32x32.Idx) : val_main_v34 (F := Ideal) mb i = mb (ix1 0) := by
  rw [val_main_v34_apply]
  unfold val_main_v33 shapeCast
  refine congrArg mb (funext fun a => Fin.ext ?_)
  match a with
  | ⟨0, _⟩ => exact Nat.lt_one_iff.1 (Fin.isLt _)

theorem dot3_apply (y0 : (⟨S32x32x3, .f32⟩ : BufTy).Contents (Elt Ideal)) (y1 : (⟨S3, .f32⟩ : BufTy).Contents (Elt Ideal)) (i : S32x32.Idx) :
    Host.dotGeneral (F := Ideal) (φ₁ := .f32) (φ₂ := .f32) dot_S32x32x3_S3_S32x32_2_0_01_n_n_n none y0 y1 i = ∑ k : Fin 3, y0 (lidx_main_v32 i k) * y1 (ridx_main_v32 i k) := by
  simp only [Host.dotGeneral]
  rw [Ideal.dotGeneral_apply, ← Equiv.sum_comp (contrEquiv1 dot_S32x32x3_S3_S32x32_2_0_01_n_n_n 3 rfl rfl).symm]
  refine Finset.sum_congr rfl fun k _ => ?_
  have hk := contrEquiv1_symm_val dot_S32x32x3_S3_S32x32_2_0_01_n_n_n 3 rfl rfl k
  congr 1
  · refine congrArg y0 (funext fun a => Fin.ext ?_)
    match a with
    | ⟨0, _⟩ => exact lhs_main_v32_0 _ _
    | ⟨1, _⟩ => exact lhs_main_v32_1 _ _
    | ⟨2, _⟩ => exact (lhs_main_v32_2 _ _).trans hk
  · refine congrArg y1 (funext fun a => Fin.ext ?_)
    match a with
    | ⟨0, _⟩ => exact (rhs_main_v32_0 _ _).trans hk

theorem patch_at (h : Act) (W : Wgt) (o : Act) (mw : Mix) (mb : Off) (r c : Fin 32) :
    patch h W o mw mb (ix2 r c) = mixed h W o mw mb (up r) (up c) := by
  unfold patch
  rw [addf_apply, dot3_apply, v34_at, Fin.sum_univ_three]
  have l : ∀ k : Fin 3, lidx_main_v32 (ix2 r c) k = ix3 r c k := fun k => funext fun a => match a with | ⟨0, _⟩ => rfl | ⟨1, _⟩ => rfl | ⟨2, _⟩ => rfl
  have rr : ∀ k : Fin 3, ridx_main_v32 (ix2 r c) k = ix1 k := fun k => funext fun a => match a with | ⟨0, _⟩ => rfl
  rw [l, l, l, rr, rr, rr, trip_0, trip_1, trip_2, v31_at, v31_at, v31_at]
  unfold mixed
  rw [mul_comm (h _), mul_comm (W _), mul_comm (o _)]

theorem start_at (k : Fin 2) : val_main_v38 (F := Ideal) (ix1 k) = 0#32 := by
  unfold val_main_v38
  match k with
  | ⟨0, _⟩ =>
    refine (concatenate_pair_apply_left (t := S2) (s₁ := S1) (s₂ := S1) 0 _ _ _ _ rfl (ix1 (0 : Fin 1)) (fun b => match b with | ⟨0, _⟩ => rfl)).trans ?_
    rw [val_main_v36_apply]; rfl
  | ⟨1, _⟩ =>
    refine (concatenate_pair_apply_right (t := S2) (s₁ := S1) (s₂ := S1) 0 _ _ _ _ rfl rfl (ix1 (0 : Fin 1)) (fun b hb => match b with | ⟨0, _⟩ => absurd rfl hb) rfl).trans ?_
    rw [val_main_v37_apply]; rfl

theorem win_at (k : S32x32.Idx) (q : Fin 2) : scatter_S4096x4096_S2_S32x32_01_n_01_0.window k q = (k q).val := by
  fin_cases q <;> rfl

/-- Where an entry of the patch lands. -/
theorem lands (k : S32x32.Idx) (r c : Fin 4096) :
    scatter_S4096x4096_S2_S32x32_01_n_01_0.resultIdx? k (val_main_v38 (F := Ideal)) = some (ix2 r c)
      ↔ (k 0).val = r.val ∧ (k 1).val = c.val := by
  refine (Routing.resultIdx?_ix2 (R := 4096) (C := 4096) _ _ _ _ _).trans ?_
  rw [Routing.start_pair (R := 4096) (C := 4096) _ rfl rfl, Routing.start_pair (R := 4096) (C := 4096) _ rfl rfl, start_at, start_at]
  have e0 := win_at k 0
  have e1 := win_at k 1
  rw [e0, e1]
  simp

theorem refUpd_eq (h : Act) (W : Wgt) (o : Act) (mw : Mix) (mb : Off) : refUpd h W o mw mb = upd h W o mw mb := by
  funext i
  obtain ⟨r, c, rfl⟩ : ∃ (r c : Fin 4096), i = ix2 r c := ⟨i 0, i 1, eq_ix2 i⟩
  unfold refUpd upd
  by_cases hrc : r.val < 32 ∧ c.val < 32
  · rw [if_pos hrc]
    refine Routing.scatter_set_hit _ _ _ _ _ _ (fun k hk => ?_) (ix2 ⟨r.val, hrc.1⟩ ⟨c.val, hrc.2⟩) ((lands _ r c).2 ⟨rfl, rfl⟩)
    obtain ⟨h0, h1⟩ := (lands k r c).1 hk
    rw [eq_ix2 k]
    refine (patch_at h W o mw mb (k 0) (k 1)).trans ?_
    rw [show up (k 0) = r from Fin.ext h0, show up (k 1) = c from Fin.ext h1]
  · rw [if_neg hrc]
    refine Routing.scatter_set_miss _ _ _ _ _ fun k hk => hrc ?_
    obtain ⟨h0, h1⟩ := (lands k r c).1 hk
    have := idx2_lt0 k; have := idx2_lt1 k
    omega

end Cert.Proof.RefValue

end
-- ==== Proof.Same.lean ====
/-
  The program as printed and the program printed for the ideal reading have one text: their body tables and their
  threads are the same, so the run of the one is the run of the other.
-/
module

public import proofs.«01_k».proof.Proof.Gen.Kernel
public import proofs.«01_k».proof.Proof.Frames

@[expose] public section

noncomputable section

namespace Cert.Proof.Same

open Idealize.ShloMosaic

variable {F : FTy → Type} [FloatOps F]

attribute [local instance] Cert.Kernel.Gen.facts Cert.KernelIdeal.Gen.facts

set_option maxHeartbeats 4000000 in
theorem bodies_eq : Cert.Kernel.defs₀ (F := F) = Cert.KernelIdeal.defs₀ (F := F) := by
  funext p ℓ a
  unfold Cert.Kernel.defs₀
  split
  · rfl
  · rfl
  · rfl
  · rfl
  · rename_i h0 h1 h2 h3
    exact (Cert.KernelIdeal.defs₀.eq_5 p ℓ a h0 h1 h2 h3).symm

set_option maxHeartbeats 4000000 in
theorem defs_eq : Cert.Kernel.defs (F := F) = Cert.KernelIdeal.defs (F := F) := by
  unfold Cert.Kernel.defs
  rw [bodies_eq]
  rfl

set_option maxHeartbeats 4000000 in
theorem main_eq : Cert.Kernel.main (F := F) = Cert.KernelIdeal.main (F := F) := by
  unfold Cert.Kernel.main Cert.KernelIdeal.main
  rfl

set_option maxHeartbeats 4000000 in
theorem threads_eq : Cert.Kernel.threads (F := F) = Cert.KernelIdeal.threads (F := F) := by
  unfold Cert.Kernel.threads
  rw [main_eq]
  rfl

set_option maxHeartbeats 4000000 in
/-- The run of the program as printed. -/
theorem run_kernel [∀ e, Nonempty (Elt F e)] (m : (ℓ : Loc Cert.Kernel.nD Cert.Kernel.τ Cert.Kernel.sig) → Buf (Elt F) ℓ)
    (ρ : Dev Cert.Kernel.nD → PrngReg) :
    θ_run (Cert.Kernel.defs (F := F)) (Cert.Kernel.threads (F := F)) ⟨m, fun _ => 0, ρ⟩ (Cert.Proof.Tile.QC (F := F) m) := by
  rw [defs_eq, threads_eq]
  exact Cert.Proof.Tile.run_main m ρ

end Cert.Proof.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Chain
public import proofs.«01_k».proof.Proof.RefValue
public import proofs.«01_k».proof.Proof.Same
public import Idealize.ShloMosaic.Adequacy
public import Idealize.ShloMosaic.Init

@[expose] public section

noncomputable section

namespace Cert.Proof

open Idealize.ShloMosaic Idealize.SL.Sem Cert.Kernel

instance (e : EltTy) : Nonempty (Elt Bits e) := by cases e <;> exact ⟨(0 : BitVec _)⟩

set_option maxHeartbeats 4000000 in
theorem frame_kernel : Cert.quiescent_Kernel (hKernel := Cert.Kernel.Gen.facts) := fun m ρ _ =>
  (θ_run (Cert.Kernel.defs (F := Bits)) _ _).mono
    (fun _ h => ⟨fun c => Cert.Proof.Tile.args_kept m h c, h.2⟩)
    (Cert.Proof.Same.run_kernel (F := Bits) m ρ)

theorem frame_ideal : Cert.quiescent_KernelIdeal (hKernelIdeal := Cert.KernelIdeal.Gen.facts) := fun m ρ _ =>
  (θ_run (Cert.KernelIdeal.defs (F := Ideal)) _ _).mono
    (fun _ h => ⟨fun c => Cert.Proof.Tile.args_kept m h c, h.2⟩)
    (Cert.Proof.Tile.run_main (F := Ideal) m ρ)

theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2.2.2.2, sem_eq_zero_of_no_sems (by decide) r.2⟩)
    (Cert.ReferenceIdeal.Value.run (F := Ideal) m ρ)

open Cert.Proof.Spec Cert.Proof.Tile Cert.Proof.RefValue Cert.ReferenceIdeal.Read in
/-- Both programs end with the three layers' output and the three updated weight matrices. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => h3 m c, fun c => upd (x0 m c) (w1 m c) (h1 m c) (mw m c) (mb m c),
    fun c => upd (h1 m c) (w2 m c) (h2 m c) (mw m c) (mb m c), fun c => upd (h2 m c) (w3 m c) (h3 m c) (mw m c) (mb m c), ?_, ?_⟩
  · refine (θ_run (Cert.KernelIdeal.defs (F := Ideal)) _ _).mono (fun r h c => ?_) (Cert.Proof.Tile.run_main (F := Ideal) m g)
    obtain ⟨e0, e1, e2, e3⟩ := Cert.Proof.Tile.results m c h
    exact ⟨e0, e1, e2, e3, Cert.Proof.Tile.args_kept m h c⟩
  · refine (θ_run (Cert.ReferenceIdeal.defs (F := Ideal)) _ _).mono (fun r h c => ?_) (Cert.ReferenceIdeal.Value.run (F := Ideal) m' g')
    obtain ⟨a0, a1, a2, a3, a4, a5, a6, a7, a8⟩ := hagree c
    obtain ⟨e0, e1, e2, e3, ha⟩ := h c
    refine ⟨(e0.trans (val_main_v17_eq ..)).trans ?_, (e1.trans (val_main_v39_eq ..)).trans ?_, (e2.trans (val_main_v61_eq ..)).trans ?_,
      (e3.trans (val_main_v83_eq ..)).trans ?_, ha⟩
    · rw [a0, a1, a2, a3, a4, a5, a6]
      exact layer3_eq ..
    · rw [a0, a1, a2, a7, a8]
      exact (v39_refUpd ..).trans ((refUpd_eq ..).trans (congrArg (fun o => upd _ _ o _ _) (layer_eq ..)))
    · rw [a0, a1, a2, a3, a4, a7, a8]
      exact (v61_refUpd ..).trans ((refUpd_eq ..).trans (congrArg₂ (fun h o => upd h _ o _ _) (layer_eq ..) (layer2_eq ..)))
    · rw [a0, a1, a2, a3, a4, a5, a6, a7, a8]
      exact (v83_refUpd ..).trans ((refUpd_eq ..).trans (congrArg₂ (fun h o => upd h _ o _ _) (layer2_eq ..) (layer3_eq ..)))

theorem claim : Cert.Claim := ⟨Cert.Kernel.Gen.facts, Cert.KernelIdeal.Gen.facts, Cert.ReferenceIdeal.Gen.facts,
  frame_kernel, frame_ideal, frame_reference, trivial, algebraic⟩

end Cert.Proof

end
